-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S2048x2048 : Shape := ⟨2, ![2048, 2048]⟩
abbrev S128x2048 : Shape := ⟨2, ![128, 2048]⟩
abbrev S16x128x128 : Shape := ⟨3, ![16, 128, 128]⟩
abbrev S16 : Shape := ⟨1, ![16]⟩
abbrev S_ : Shape := ⟨0, ![]⟩
abbrev S1 : Shape := ⟨1, ![1]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S128x2048, .f32⟩
  | .local _ .vmem, ⟨0, _⟩ => ⟨S2048x128, .bf16⟩
  | .local _ .vmem, ⟨1, _⟩ => ⟨S2048x2048, .bf16⟩
  | .local _ .vmem, ⟨2, _⟩ => ⟨S128x2048, .f32⟩
  | .local _ .vmem, ⟨3, _⟩ => ⟨S2048x128, .bf16⟩
  | .local _ .vmem, ⟨4, _⟩ => ⟨S2048x2048, .bf16⟩
  | .local _ .vmem, ⟨5, _⟩ => ⟨S16x128x128, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v9 : BitVec 32 := Scalar.addi v2 c1_i32_3
  let c16_i32_4 : BitVec 32 := 16#32
  let v10 : BitVec 32 := Scalar.remsi v9 c16_i32_4
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v13 : BitVec 32 := Scalar.addi v2 c2_i32
  let c16_i32_7 : BitVec 32 := 16#32
  let v14 : BitVec 32 := Scalar.remsi v13 c16_i32_7
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 32 := Scalar.addi v2 c3_i32
  let c16_i32_11 : BitVec 32 := 16#32
  let v18 : BitVec 32 := Scalar.remsi v17 c16_i32_11
  let c1_i32_13 : BitVec 32 := 1#32
  let v19 : BitVec 32 := Scalar.muli v18 c1_i32_13
  let v20 : BitVec 32 := Scalar.addi c0_i32_14 v19
  v20.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 32 := Scalar.addi v2 c4_i32
  let c16_i32_15 : BitVec 32 := 16#32
  let v22 : BitVec 32 := Scalar.remsi v21 c16_i32_15
  let c1_i32_17 : BitVec 32 := 1#32
  let v23 : BitVec 32 := Scalar.muli v22 c1_i32_17
  let v24 : BitVec 32 := Scalar.addi c0_i32_18 v23
  v24.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v25 : BitVec 32 := Scalar.addi v2 c5_i32
  let c16_i32_19 : BitVec 32 := 16#32
  let v26 : BitVec 32 := Scalar.remsi v25 c16_i32_19
  let c1_i32_21 : BitVec 32 := 1#32
  let v27 : BitVec 32 := Scalar.muli v26 c1_i32_21
  let v28 : BitVec 32 := Scalar.addi c0_i32_22 v27
  v28.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v29 : BitVec 32 := Scalar.addi v2 c6_i32
  let c16_i32_23 : BitVec 32 := 16#32
  let v30 : BitVec 32 := Scalar.remsi v29 c16_i32_23
  let c1_i32_25 : BitVec 32 := 1#32
  let v31 : BitVec 32 := Scalar.muli v30 c1_i32_25
  let v32 : BitVec 32 := Scalar.addi c0_i32_26 v31
  v32.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v33 : BitVec 32 := Scalar.addi v2 c7_i32
  let c16_i32_27 : BitVec 32 := 16#32
  let v34 : BitVec 32 := Scalar.remsi v33 c16_i32_27
  let c1_i32_29 : BitVec 32 := 1#32
  let v35 : BitVec 32 := Scalar.muli v34 c1_i32_29
  let v36 : BitVec 32 := Scalar.addi c0_i32_30 v35
  v36.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_31 : BitVec 32 := 16#32
  let v38 : BitVec 32 := Scalar.remsi v37 c16_i32_31
  let c1_i32_33 : BitVec 32 := 1#32
  let v39 : BitVec 32 := Scalar.muli v38 c1_i32_33
  let v40 : BitVec 32 := Scalar.addi c0_i32_34 v39
  v40.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v41 : BitVec 32 := Scalar.addi v2 c9_i32
  let c16_i32_35 : BitVec 32 := 16#32
  let v42 : BitVec 32 := Scalar.remsi v41 c16_i32_35
  let c1_i32_37 : BitVec 32 := 1#32
  let v43 : BitVec 32 := Scalar.muli v42 c1_i32_37
  let v44 : BitVec 32 := Scalar.addi c0_i32_38 v43
  v44.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v45 : BitVec 32 := Scalar.addi v2 c10_i32
  let c16_i32_39 : BitVec 32 := 16#32
  let v46 : BitVec 32 := Scalar.remsi v45 c16_i32_39
  let c1_i32_41 : BitVec 32 := 1#32
  let v47 : BitVec 32 := Scalar.muli v46 c1_i32_41
  let v48 : BitVec 32 := Scalar.addi c0_i32_42 v47
  v48.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 32 := Scalar.addi v2 c11_i32
  let c16_i32_43 : BitVec 32 := 16#32
  let v50 : BitVec 32 := Scalar.remsi v49 c16_i32_43
  let c1_i32_45 : BitVec 32 := 1#32
  let v51 : BitVec 32 := Scalar.muli v50 c1_i32_45
  let v52 : BitVec 32 := Scalar.addi c0_i32_46 v51
  v52.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v53 : BitVec 32 := Scalar.addi v2 c12_i32
  let c16_i32_47 : BitVec 32 := 16#32
  let v54 : BitVec 32 := Scalar.remsi v53 c16_i32_47
  let c1_i32_49 : BitVec 32 := 1#32
  let v55 : BitVec 32 := Scalar.muli v54 c1_i32_49
  let v56 : BitVec 32 := Scalar.addi c0_i32_50 v55
  v56.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v57 : BitVec 32 := Scalar.addi v2 c13_i32
  let c16_i32_51 : BitVec 32 := 16#32
  let v58 : BitVec 32 := Scalar.remsi v57 c16_i32_51
  let c1_i32_53 : BitVec 32 := 1#32
  let v59 : BitVec 32 := Scalar.muli v58 c1_i32_53
  let v60 : BitVec 32 := Scalar.addi c0_i32_54 v59
  v60.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v61 : BitVec 32 := Scalar.addi v2 c14_i32
  let c16_i32_55 : BitVec 32 := 16#32
  let v62 : BitVec 32 := Scalar.remsi v61 c16_i32_55
  let c1_i32_57 : BitVec 32 := 1#32
  let v63 : BitVec 32 := Scalar.muli v62 c1_i32_57
  let v64 : BitVec 32 := Scalar.addi c0_i32_58 v63
  v64.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v65 : BitVec 32 := Scalar.addi v2 c15_i32
  let c16_i32_59 : BitVec 32 := 16#32
  let v66 : BitVec 32 := Scalar.remsi v65 c16_i32_59
  let c1_i32_61 : BitVec 32 := 1#32
  let v67 : BitVec 32 := Scalar.muli v66 c1_i32_61
  let v68 : BitVec 32 := Scalar.addi c0_i32_62 v67
  v68.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_69 : BitVec 32 := 0#32
  let c0_i32_70 : BitVec 32 := 0#32
  ![v2.toNat, 0, 0]
def k0_off3 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_64
  let c16_i32_65 : BitVec 32 := 16#32
  let v70 : BitVec 32 := Scalar.remsi v69 c16_i32_65
  let c128_i32 : BitVec 32 := 128#32
  let v71 : BitVec 32 := Scalar.muli v70 c128_i32
  let c0_i32_71 : BitVec 32 := 0#32
  ![v71.toNat, 0]
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v69 : BitVec 32 := Scalar.addi v2 c1_i32_64
  let c16_i32_65 : BitVec 32 := 16#32
  let v70 : BitVec 32 := Scalar.remsi v69 c16_i32_65
  let c1_i32_67 : BitVec 32 := 1#32
  let v72 : BitVec 32 := Scalar.muli v70 c1_i32_67
  let v73 : BitVec 32 := Scalar.addi c0_i32_68 v72
  v73.toNat
def k0_dev17 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_72 : BitVec 32 := 2#32
  let v81 : BitVec 32 := Scalar.addi v2 c2_i32_72
  let c16_i32_73 : BitVec 32 := 16#32
  let v82 : BitVec 32 := Scalar.remsi v81 c16_i32_73
  let c1_i32_76 : BitVec 32 := 1#32
  let v84 : BitVec 32 := Scalar.muli v82 c1_i32_76
  let v85 : BitVec 32 := Scalar.addi c0_i32_77 v84
  v85.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_81 : BitVec 32 := 3#32
  let v93 : BitVec 32 := Scalar.addi v2 c3_i32_81
  let c16_i32_82 : BitVec 32 := 16#32
  let v94 : BitVec 32 := Scalar.remsi v93 c16_i32_82
  let c1_i32_85 : BitVec 32 := 1#32
  let v96 : BitVec 32 := Scalar.muli v94 c1_i32_85
  let v97 : BitVec 32 := Scalar.addi c0_i32_86 v96
  v97.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_90 : BitVec 32 := 4#32
  let v105 : BitVec 32 := Scalar.addi v2 c4_i32_90
  let c16_i32_91 : BitVec 32 := 16#32
  let v106 : BitVec 32 := Scalar.remsi v105 c16_i32_91
  let c1_i32_94 : BitVec 32 := 1#32
  let v108 : BitVec 32 := Scalar.muli v106 c1_i32_94
  let v109 : BitVec 32 := Scalar.addi c0_i32_95 v108
  v109.toNat
def k0_dev20 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_99 : BitVec 32 := 5#32
  let v117 : BitVec 32 := Scalar.addi v2 c5_i32_99
  let c16_i32_100 : BitVec 32 := 16#32
  let v118 : BitVec 32 := Scalar.remsi v117 c16_i32_100
  let c1_i32_103 : BitVec 32 := 1#32
  let v120 : BitVec 32 := Scalar.muli v118 c1_i32_103
  let v121 : BitVec 32 := Scalar.addi c0_i32_104 v120
  v121.toNat
def k0_dev21 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_108 : BitVec 32 := 6#32
  let v129 : BitVec 32 := Scalar.addi v2 c6_i32_108
  let c16_i32_109 : BitVec 32 := 16#32
  let v130 : BitVec 32 := Scalar.remsi v129 c16_i32_109
  let c1_i32_112 : BitVec 32 := 1#32
  let v132 : BitVec 32 := Scalar.muli v130 c1_i32_112
  let v133 : BitVec 32 := Scalar.addi c0_i32_113 v132
  v133.toNat
def k0_dev22 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_117 : BitVec 32 := 7#32
  let v141 : BitVec 32 := Scalar.addi v2 c7_i32_117
  let c16_i32_118 : BitVec 32 := 16#32
  let v142 : BitVec 32 := Scalar.remsi v141 c16_i32_118
  let c1_i32_121 : BitVec 32 := 1#32
  let v144 : BitVec 32 := Scalar.muli v142 c1_i32_121
  let v145 : BitVec 32 := Scalar.addi c0_i32_122 v144
  v145.toNat
def k0_dev23 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_126 : BitVec 32 := 8#32
  let v153 : BitVec 32 := Scalar.addi v2 c8_i32_126
  let c16_i32_127 : BitVec 32 := 16#32
  let v154 : BitVec 32 := Scalar.remsi v153 c16_i32_127
  let c1_i32_130 : BitVec 32 := 1#32
  let v156 : BitVec 32 := Scalar.muli v154 c1_i32_130
  let v157 : BitVec 32 := Scalar.addi c0_i32_131 v156
  v157.toNat
def k0_dev24 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_135 : BitVec 32 := 9#32
  let v165 : BitVec 32 := Scalar.addi v2 c9_i32_135
  let c16_i32_136 : BitVec 32 := 16#32
  let v166 : BitVec 32 := Scalar.remsi v165 c16_i32_136
  let c1_i32_139 : BitVec 32 := 1#32
  let v168 : BitVec 32 := Scalar.muli v166 c1_i32_139
  let v169 : BitVec 32 := Scalar.addi c0_i32_140 v168
  v169.toNat
def k0_dev25 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_144 : BitVec 32 := 10#32
  let v177 : BitVec 32 := Scalar.addi v2 c10_i32_144
  let c16_i32_145 : BitVec 32 := 16#32
  let v178 : BitVec 32 := Scalar.remsi v177 c16_i32_145
  let c1_i32_148 : BitVec 32 := 1#32
  let v180 : BitVec 32 := Scalar.muli v178 c1_i32_148
  let v181 : BitVec 32 := Scalar.addi c0_i32_149 v180
  v181.toNat
def k0_dev26 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_153 : BitVec 32 := 11#32
  let v189 : BitVec 32 := Scalar.addi v2 c11_i32_153
  let c16_i32_154 : BitVec 32 := 16#32
  let v190 : BitVec 32 := Scalar.remsi v189 c16_i32_154
  let c1_i32_157 : BitVec 32 := 1#32
  let v192 : BitVec 32 := Scalar.muli v190 c1_i32_157
  let v193 : BitVec 32 := Scalar.addi c0_i32_158 v192
  v193.toNat
def k0_dev27 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_162 : BitVec 32 := 12#32
  let v201 : BitVec 32 := Scalar.addi v2 c12_i32_162
  let c16_i32_163 : BitVec 32 := 16#32
  let v202 : BitVec 32 := Scalar.remsi v201 c16_i32_163
  let c1_i32_166 : BitVec 32 := 1#32
  let v204 : BitVec 32 := Scalar.muli v202 c1_i32_166
  let v205 : BitVec 32 := Scalar.addi c0_i32_167 v204
  v205.toNat
def k0_dev28 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_171 : BitVec 32 := 13#32
  let v213 : BitVec 32 := Scalar.addi v2 c13_i32_171
  let c16_i32_172 : BitVec 32 := 16#32
  let v214 : BitVec 32 := Scalar.remsi v213 c16_i32_172
  let c1_i32_175 : BitVec 32 := 1#32
  let v216 : BitVec 32 := Scalar.muli v214 c1_i32_175
  let v217 : BitVec 32 := Scalar.addi c0_i32_176 v216
  v217.toNat
def k0_dev29 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_180 : BitVec 32 := 14#32
  let v225 : BitVec 32 := Scalar.addi v2 c14_i32_180
  let c16_i32_181 : BitVec 32 := 16#32
  let v226 : BitVec 32 := Scalar.remsi v225 c16_i32_181
  let c1_i32_184 : BitVec 32 := 1#32
  let v228 : BitVec 32 := Scalar.muli v226 c1_i32_184
  let v229 : BitVec 32 := Scalar.addi c0_i32_185 v228
  v229.toNat
def k0_dev30 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_189 : BitVec 32 := 15#32
  let v237 : BitVec 32 := Scalar.addi v2 c15_i32_189
  let c16_i32_190 : BitVec 32 := 16#32
  let v238 : BitVec 32 := Scalar.remsi v237 c16_i32_190
  let c1_i32_193 : BitVec 32 := 1#32
  let v240 : BitVec 32 := Scalar.muli v238 c1_i32_193
  let v241 : BitVec 32 := Scalar.addi c0_i32_194 v240
  v241.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_201 : BitVec 32 := 0#32
  ![v249.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_208 : BitVec 32 := 0#32
  let v260 : BitVec 1 := Scalar.cmpi .eq v2 c0_i32_208
  let v261 : BitVec 32 := Scalar.extui v260
  let c0_i32_209 : BitVec 32 := 0#32
  let v262 : BitVec 1 := Scalar.cmpi .ne v261 c0_i32_209
  v262

def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_222 : BitVec 32 := 1#32
  let v274 : BitVec 1 := Scalar.cmpi .eq v2 c1_i32_222
  let v275 : BitVec 32 := Scalar.extui v274
  let c0_i32_223 : BitVec 32 := 0#32
  let v276 : BitVec 1 := Scalar.cmpi .ne v275 c0_i32_223
  v276

def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_234 : BitVec 32 := 2#32
  let v288 : BitVec 1 := Scalar.cmpi .eq v2 c2_i32_234
  let v289 : BitVec 32 := Scalar.extui v288
  let c0_i32_235 : BitVec 32 := 0#32
  let v290 : BitVec 1 := Scalar.cmpi .ne v289 c0_i32_235
  v290

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_246 : BitVec 32 := 3#32
  let v302 : BitVec 1 := Scalar.cmpi .eq v2 c3_i32_246
  let v303 : BitVec 32 := Scalar.extui v302
  let c0_i32_247 : BitVec 32 := 0#32
  let v304 : BitVec 1 := Scalar.cmpi .ne v303 c0_i32_247
  v304

def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_258 : BitVec 32 := 4#32
  let v316 : BitVec 1 := Scalar.cmpi .eq v2 c4_i32_258
  let v317 : BitVec 32 := Scalar.extui v316
  let c0_i32_259 : BitVec 32 := 0#32
  let v318 : BitVec 1 := Scalar.cmpi .ne v317 c0_i32_259
  v318

def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_270 : BitVec 32 := 5#32
  let v330 : BitVec 1 := Scalar.cmpi .eq v2 c5_i32_270
  let v331 : BitVec 32 := Scalar.extui v330
  let c0_i32_271 : BitVec 32 := 0#32
  let v332 : BitVec 1 := Scalar.cmpi .ne v331 c0_i32_271
  v332

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_282 : BitVec 32 := 6#32
  let v344 : BitVec 1 := Scalar.cmpi .eq v2 c6_i32_282
  let v345 : BitVec 32 := Scalar.extui v344
  let c0_i32_283 : BitVec 32 := 0#32
  let v346 : BitVec 1 := Scalar.cmpi .ne v345 c0_i32_283
  v346

def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_294 : BitVec 32 := 7#32
  let v358 : BitVec 1 := Scalar.cmpi .eq v2 c7_i32_294
  let v359 : BitVec 32 := Scalar.extui v358
  let c0_i32_295 : BitVec 32 := 0#32
  let v360 : BitVec 1 := Scalar.cmpi .ne v359 c0_i32_295
  v360

def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_306 : BitVec 32 := 8#32
  let v372 : BitVec 1 := Scalar.cmpi .eq v2 c8_i32_306
  let v373 : BitVec 32 := Scalar.extui v372
  let c0_i32_307 : BitVec 32 := 0#32
  let v374 : BitVec 1 := Scalar.cmpi .ne v373 c0_i32_307
  v374

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_318 : BitVec 32 := 9#32
  let v386 : BitVec 1 := Scalar.cmpi .eq v2 c9_i32_318
  let v387 : BitVec 32 := Scalar.extui v386
  let c0_i32_319 : BitVec 32 := 0#32
  let v388 : BitVec 1 := Scalar.cmpi .ne v387 c0_i32_319
  v388

def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_330 : BitVec 32 := 10#32
  let v400 : BitVec 1 := Scalar.cmpi .eq v2 c10_i32_330
  let v401 : BitVec 32 := Scalar.extui v400
  let c0_i32_331 : BitVec 32 := 0#32
  let v402 : BitVec 1 := Scalar.cmpi .ne v401 c0_i32_331
  v402

def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_342 : BitVec 32 := 11#32
  let v414 : BitVec 1 := Scalar.cmpi .eq v2 c11_i32_342
  let v415 : BitVec 32 := Scalar.extui v414
  let c0_i32_343 : BitVec 32 := 0#32
  let v416 : BitVec 1 := Scalar.cmpi .ne v415 c0_i32_343
  v416

def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_354 : BitVec 32 := 12#32
  let v428 : BitVec 1 := Scalar.cmpi .eq v2 c12_i32_354
  let v429 : BitVec 32 := Scalar.extui v428
  let c0_i32_355 : BitVec 32 := 0#32
  let v430 : BitVec 1 := Scalar.cmpi .ne v429 c0_i32_355
  v430

def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_366 : BitVec 32 := 13#32
  let v442 : BitVec 1 := Scalar.cmpi .eq v2 c13_i32_366
  let v443 : BitVec 32 := Scalar.extui v442
  let c0_i32_367 : BitVec 32 := 0#32
  let v444 : BitVec 1 := Scalar.cmpi .ne v443 c0_i32_367
  v444

def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_378 : BitVec 32 := 14#32
  let v456 : BitVec 1 := Scalar.cmpi .eq v2 c14_i32_378
  let v457 : BitVec 32 := Scalar.extui v456
  let c0_i32_379 : BitVec 32 := 0#32
  let v458 : BitVec 1 := Scalar.cmpi .ne v457 c0_i32_379
  v458

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_390 : BitVec 32 := 15#32
  let v470 : BitVec 1 := Scalar.cmpi .eq v2 c15_i32_390
  let v471 : BitVec 32 := Scalar.extui v470
  let c0_i32_391 : BitVec 32 := 0#32
  let v472 : BitVec 1 := Scalar.cmpi .ne v471 c0_i32_391
  v472

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_477 : BitVec 32 := 0#32
  let c0_i32_478 : BitVec 32 := 0#32
  ![v2.toNat, 0, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_198 : BitVec 32 := 128#32
  let v249 : BitVec 32 := Scalar.muli v2 c128_i32_198
  let c0_i32_479 : BitVec 32 := 0#32
  ![v249.toNat, 0]
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Loop.lean ====
/-
The body of the kernel as loops. The printed body is 1187 statements long, cut into parts; read as a
program it is: copy the `x` block into the staging buffer; signal the fifteen other devices; wait for
fifteen; send fifteen row blocks; copy the own row block; copy `w`; clear the accumulator; for each of
the sixteen devices wait for its block and accumulate its product; wait for the fifteen sends.
This module states that program with one definition per step and loops over the steps (`bodyL`), and
proves that the printed body is it (`body_eq`).
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 65536

noncomputable section

namespace Cert.AllToAll

open Cert.KernelIdeal Cert.KernelIdeal.Gen

open Idealize.ShloMosaic
open Idealize.ShloMosaic.TcCoe
open Idealize.SL Idealize.SL.Sem

variable {F : FTy → Type} [FloatOps F]

/-! ## Buffers and semaphores -/

/-- The staged block of `x`, the staged `w`, the output block; -/
abbrev xM : Memref sig .tc .vmem S2048x128 .bf16 := Memref.whole cc0_stg0_0
abbrev wM : Memref sig .tc .vmem S2048x2048 .bf16 := Memref.whole cc0_stg1_0
abbrev oM : Memref sig .tc .vmem S128x2048 .f32 := Memref.whole cc0_stg2_0
/-- the kernel's copies of the two operands, and the buffer of the sixteen gathered blocks. -/
abbrev xbM : Memref sig .tc .vmem S2048x128 .bf16 := Memref.whole cc0_scratch0
abbrev wbM : Memref sig .tc .vmem S2048x2048 .bf16 := Memref.whole cc0_scratch1
abbrev gM : Memref sig .tc .vmem S16x128x128 .bf16 := Memref.whole cc0_scratch2
theorem hxb : xbM.IsWhole := Memref.isWhole_whole _
theorem hwb : wbM.IsWhole := Memref.isWhole_whole _
theorem hg : gM.IsWhole := Memref.isWhole_whole _

/-- The barrier semaphore. -/
abbrev barS : Sem sig := (SemArray.scalar (sig.barrier 0 rfl) : Sems sig S_).sem

/-- Slot at offsets `o` of the gathered blocks, as a `128 × 128` array. -/
abbrev slotM (o : Fin 3 → ℕ) (h : ∀ a, o a + S1x128x128.size a ≤ S16x128x128.size a) : Memref sig .tc .vmem S128x128 .bf16 :=
  (gM.slice (Rect.unit (s := S16x128x128) o S1x128x128.size h) (fun _ => rfl)).squeeze S128x128 squeezes_S1x128x128_S128x128
/-- The `128` rows at offsets `o` of the copy of `x`. -/
abbrev rowsM (o : Fin 2 → ℕ) (h : ∀ a, o a + S128x128.size a ≤ S2048x128.size a) : Memref sig .tc .vmem S128x128 .bf16 :=
  xbM.slice (Rect.unit (s := S2048x128) o S128x128.size h) (fun _ => rfl)
/-- The semaphore at offset `o` of an array of sixteen. -/
abbrev semAt (A : DmaSems sig S16) (o : Fin 1 → ℕ) (h : ∀ a, o a + S1.size a ≤ S16.size a) : DmaSem sig :=
  ((A.slice (Rect.unit (s := S16) o S1.size h)).squeeze S_ squeezes_S1_S_).sem

theorem inb16 (n : ℕ) (h : n < 16) : ∀ a, (![n] : Fin 1 → ℕ) a + S1.size a ≤ S16.size a := by
  intro a; fin_cases a; show n + 1 ≤ 16; omega
theorem inbSlot (n : ℕ) (h : n < 16) : ∀ a, (![n, 0, 0] : Fin 3 → ℕ) a + S1x128x128.size a ≤ S16x128x128.size a := by
  intro a; fin_cases a
  · show n + 1 ≤ 16; omega
  · exact Nat.le_refl 128
  · exact Nat.le_refl 128
theorem inbRows (n : ℕ) (h : n < 16) : ∀ a, (![128 * n, 0] : Fin 2 → ℕ) a + S128x2048.size a ≤ S2048x2048.size a := by
  intro a; fin_cases a
  · show 128 * n + 128 ≤ 2048; omega
  · exact Nat.le_refl 2048

/-! ## Device words, as the kernel computes them -/

/-- The device's own number. -/
abbrev me (c : Dev nD) : BitVec 32 := Scalar.remsi (Scalar.divsi (Dev.word c) 1#32) 16#32
/-- The number of the device `k` places on. -/
abbrev peerW (c : Dev nD) (k : BitVec 32) : ℕ :=
  (Scalar.addi 0#32 (Scalar.muli (Scalar.remsi (Scalar.addi (me c) k) 16#32) 1#32)).toNat

theorem peerW_eq : ∀ (c : Dev nD) (r : Fin 15), peerW c (BitVec.ofNat 32 (1 + r.val)) = (c.val + (1 + r.val)) % 16 := by decide +kernel
theorem peerW_lt (c : Dev nD) (r : Fin 15) : peerW c (BitVec.ofNat 32 (1 + r.val)) < nD := by
  rw [peerW_eq]; exact Nat.mod_lt _ (by decide)
/-- That device. -/
abbrev peerD (c : Dev nD) (r : Fin 15) : Dev nD := ⟨peerW c (BitVec.ofNat 32 (1 + r.val)), peerW_lt c r⟩

/-- The kernel's test that its own number is `s`, and that it is not. -/
abbrev isMe (c : Dev nD) (s : ℕ) : BitVec 1 := Scalar.cmpi .ne (Scalar.extui (Scalar.cmpi .eq (me c) (BitVec.ofNat 32 s)) : BitVec 32) 0#32
abbrev notMe (c : Dev nD) (s : ℕ) : BitVec 1 := Scalar.cmpi .ne (Scalar.extui (Scalar.cmpi .ne (me c) (BitVec.ofNat 32 s)) : BitVec 32) 0#32

/-! ## The steps -/

abbrev TProg (F : FTy → Type) [FloatOps F] := Prog (TpuEff nD τ sig (Elt F) Λ₀ .tc)

/-- One step per element of a list, in order. -/
def each {α : Type} (P : α → TProg F PUnit) : List α → TProg F PUnit
  | [] => pure ⟨⟩
  | a :: l => P a >>= fun _ => each P l

/-- Copy `x`. -/
def copyX : TProg F PUnit := do
  let v ← Prog.lift (.load xM (Rect.unit (s := S2048x128) ![0, 0] S2048x128.size inb_S2048x128_S2048x128_0_0).toLoadRect (View.loadsAt_vmem h_S2048x128))
  let _ ← Prog.lift (.load xbM (Rect.unit (s := S2048x128) ![0, 0] S2048x128.size inb_S2048x128_S2048x128_0_0).toLoadRect (View.loadsAt_vmem h_S2048x128))
  Prog.lift (.store xbM (Rect.unit (s := S2048x128) ![0, 0] S2048x128.size inb_S2048x128_S2048x128_0_0) (k0_pay1 v) Finset.univ (View.stores_vmem h_S2048x128 (hxb.storeExact_slice rfl _ packedbf16_S2048x128_S2048x128_0_0) (fun _ => rfl)) (.inl rfl))

/-- Signal the device `1 + r` places on. -/
def signalP (c : Dev nD) (r : Fin 15) : TProg F PUnit := semSignalWord (peerD c r) barS 1#32

/-- Send the row block of the device `1 + r` places on into its slot of this device. -/
def sendP (c : Dev nD) (r : Fin 15) : TProg F PUnit :=
  Prog.lift (.enqueueDma (rowsM (k0_off3 c (BitVec.ofNat 32 (1 + r.val))) (k0_off3_inb c r))
    (.remote (Dev.tc (peerD c r)) (slotM (k0_off2 c) (k0_off2_inb c)) (.dma (semAt cc0_scratch3 ![1 + r.val] (inb16 _ (by omega)))))
    (.dma (semAt cc0_scratch4 (k0_off1 c) (k0_off1_inb c)))
    (hxb.wordExact_slice rfl _ (k0_off3_wordsbf16 c r)) ((hg.wordExact_slice rfl _ (k0_off2_wordsbf16 c)).reshape _ _) ⟨⟨rfl, Or.inl rfl⟩, trivial⟩)

/-- Copy the device's own row block into its own slot. -/
def localP (c : Dev nD) : TProg F PUnit :=
  Prog.lift (.enqueueDma (rowsM (k0_off4 c) (k0_off4_inb c)) (.here (slotM (k0_off2 c) (k0_off2_inb c))) (.dma cc0_scratch5.sem)
    (hxb.wordExact_slice rfl _ (k0_off4_wordsbf16 c)) ((hg.wordExact_slice rfl _ (k0_off2_wordsbf16 c)).reshape _ _) ⟨Or.inl rfl, trivial⟩)

/-- Copy `w` and clear the output block. -/
def copyW : TProg F PUnit := do
  let v ← Prog.lift (.load wM (Rect.unit (s := S2048x2048) ![0, 0] S2048x2048.size inb_S2048x2048_S2048x2048_0_0).toLoadRect (View.loadsAt_vmem h_S2048x2048))
  let _ ← Prog.lift (.load wbM (Rect.unit (s := S2048x2048) ![0, 0] S2048x2048.size inb_S2048x2048_S2048x2048_0_0).toLoadRect (View.loadsAt_vmem h_S2048x2048))
  Prog.lift (.store wbM (Rect.unit (s := S2048x2048) ![0, 0] S2048x2048.size inb_S2048x2048_S2048x2048_0_0) (k0_pay2 v) Finset.univ (View.stores_vmem h_S2048x2048 (hwb.storeExact_slice rfl _ packedbf16_S2048x2048_S2048x2048_0_0) (fun _ => rfl)) (.inl rfl))
  let _ ← Prog.lift (.load oM (Rect.unit (s := S128x2048) ![0, 0] S128x2048.size inb_S128x2048_S128x2048_0_0).toLoadRect (View.loadsAt_vmem h_S128x2048))
  Prog.lift (.store oM (Rect.unit (s := S128x2048) ![0, 0] S128x2048.size inb_S128x2048_S128x2048_0_0) (k0_pay3 (F := F)) Finset.univ (View.stores_vmem_bits_univ h_S128x2048 rfl) (.inl rfl))

theorem wordsSlot : ∀ s : Fin 16, (Rect.unit (s := S16x128x128) ![s.val, 0, 0] S1x128x128.size (inbSlot s.val s.isLt)).WholeWords (EltTy.packing .bf16) := by decide +kernel

/-- Do something only when a condition holds. -/
def whenP (p : Prop) [Decidable p] (A : p → TProg F PUnit) : TProg F PUnit := if h : p then A h else Prog.ret ⟨⟩

/-- A branch whose two arms go on alike is a conditional step and then the rest. -/
theorem whenP_join {β : Type} (p : Prop) [Decidable p] (A : p → TProg F PUnit) (K : TProg F β) :
    (if h : p then (A h >>= fun _ => K) else K) = (whenP p A >>= fun _ => K) := by
  unfold whenP; split <;> rfl

/-- Equal first steps and equal continuations make equal programs. -/
theorem bind_step {α β : Type} {p p' : TProg F α} {k k' : α → TProg F β} (hp : p = p') (hk : ∀ a, k a = k' a) :
    (p >>= k) = (p' >>= k') := by rw [hp, funext hk]

/-- Wait for the block of device `s`: for the own copy if that is this device, else for the transfer. -/
def waitOwnP (c : Dev nD) (s : Fin 16) : TProg F PUnit :=
  whenP (isMe c s.val = 1#1) fun _ =>
    Prog.lift (.waitDma2 cc0_scratch5.sem (rowsM (k0_off4 c) (k0_off4_inb c)) (slotM (k0_off2 c) (k0_off2_inb c))
      (hxb.wordExact_slice rfl _ (k0_off4_wordsbf16 c)) ((hg.wordExact_slice rfl _ (k0_off2_wordsbf16 c)).reshape _ _))
def waitPeerP (c : Dev nD) (s : Fin 16) : TProg F PUnit :=
  whenP (notMe c s.val = 1#1) fun _ =>
    Prog.lift (.waitDma2 (semAt cc0_scratch4 ![s.val] (inb16 _ s.isLt)) (rowsM ![0, 0] inb_S2048x128_S128x128_0_0) (slotM ![s.val, 0, 0] (inbSlot _ s.isLt))
      (hxb.wordExact_slice rfl _ wordsbf16_S2048x128_S128x128_0_0) ((hg.wordExact_slice rfl _ (wordsSlot s)).reshape _ _))

/-- Wait for the block of device `s`, then add its product with the matching rows of `w` to the output block. -/
def accP (c : Dev nD) (s : Fin 16) : TProg F PUnit := do
  waitOwnP c s
  waitPeerP c s
  let a ← Prog.lift (.load oM (Rect.unit (s := S128x2048) ![0, 0] S128x2048.size inb_S128x2048_S128x2048_0_0).toLoadRect (View.loadsAt_vmem h_S128x2048))
  let b ← Prog.lift (.load gM (Rect.unit (s := S16x128x128) ![s.val, 0, 0] S1x128x128.size (inbSlot _ s.isLt)).toLoadRect (View.loadsAt_vmem h_S1x128x128))
  let w ← Prog.lift (.load wbM (Rect.unit (s := S2048x2048) ![128 * s.val, 0] S128x2048.size (inbRows _ s.isLt)).toLoadRect (View.loadsAt_vmem h_S128x2048))
  let _ ← Prog.lift (.load oM (Rect.unit (s := S128x2048) ![0, 0] S128x2048.size inb_S128x2048_S128x2048_0_0).toLoadRect (View.loadsAt_vmem h_S128x2048))
  Prog.lift (.store oM (Rect.unit (s := S128x2048) ![0, 0] S128x2048.size inb_S128x2048_S128x2048_0_0) (k0_pay4 a b w) Finset.univ (View.stores_vmem_bits_univ h_S128x2048 rfl) (.inl rfl))

/-- Wait for the send to the device `1 + r` places on. -/
def sentP (c : Dev nD) (r : Fin 15) : TProg F PUnit :=
  Prog.lift (.waitDma2 (semAt cc0_scratch3 ![1 + r.val] (inb16 _ (by omega))) (slotM (k0_off2 c) (k0_off2_inb c)) (rowsM (k0_off3 c (BitVec.ofNat 32 (1 + r.val))) (k0_off3_inb c r))
    ((hg.wordExact_slice rfl _ (k0_off2_wordsbf16 c)).reshape _ _) (hxb.wordExact_slice rfl _ (k0_off3_wordsbf16 c r)))

abbrev l15 : List (Fin 15) := [0, 1, 2, 3, 4, 5, 6, 7, 8, 9, 10, 11, 12, 13, 14]
abbrev l16 : List (Fin 16) := [0, 1, 2, 3, 4, 5, 6, 7, 8, 9, 10, 11, 12, 13, 14, 15]

/-- The body as loops. -/
def bodyL : TProg F PUnit := do
  let c ← Prog.lift .deviceId
  copyX
  each (signalP c) l15
  semWaitWord barS 15#32
  each (sendP c) l15
  localP c
  copyW
  each (accP c) l16
  each (sentP c) l15

set_option maxHeartbeats 1000000 in
/-- The printed body is the loops. -/
theorem body_eq :
    cc0_body (F := F) xM (Memref.isWhole_whole _) wM (Memref.isWhole_whole _) oM (Memref.isWhole_whole _)
        xbM (Memref.isWhole_whole _) wbM (Memref.isWhole_whole _) gM (Memref.isWhole_whole _) cc0_scratch3 cc0_scratch4 cc0_scratch5 = bodyL := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel,
    bodyL, copyX, copyW, accP, each, whenP_join, Prog.bind_assoc, Prog.pure_eq_ret, Prog.bind_ret]
  repeat' first
    | with_reducible rfl
    | refine bind_step rfl (fun _ => ?_)

end Cert.AllToAll

end
-- ==== Proof.Blocks.lean ====
/-
The blocks the devices exchange, and what they hold. A device's copy of its `x` block is cut into sixteen
row blocks of 128 rows, one per device; its buffer of gathered blocks into sixteen slots, one per device.
This module names the two families, shows that each family makes up its buffer, and states what a
transfer of a row block into a slot leaves there.
-/
module

public import proofs.«01_k».proof.Proof.Loop
public import Idealize.ShloMosaic.Lib.Pipeline.Launch
public import Idealize.ShloMosaic.Lib.Pipeline.Kit
public import Idealize.ShloMosaic.Lib.Pipeline.BigSepL
public import Idealize.ShloMosaic.Lib.Pipeline.Value
public import Idealize.ShloMosaic.Lib.Pipeline.ValueKit.Geometry
public import Idealize.ShloMosaic.Lib.ValueLayout
public import Idealize.ShloMosaic.Lib.Rounds
public import Idealize.ShloMosaic.Lib.Rounds.Family
public import Idealize.ShloMosaic.Lib.Tactic

@[expose] public section

set_option maxRecDepth 65536

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline library's rounds, and this kernel's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices by distance -/

/-- The device `1 + r` places on. -/
def peer (c : Dev nD) (r : Fin 15) : Dev nD := ⟨(c.val + (1 + r.val)) % 16, Nat.mod_lt _ (by decide)⟩

theorem peerD_eq (c : Dev nD) (r : Fin 15) : peerD c r = peer c r := Fin.ext (peerW_eq c r)
theorem peer_ne : ∀ (c : Dev nD) (r : Fin 15), peer c r ≠ c := by decide +kernel
theorem peer_inj (c : Dev nD) : Function.Injective (peer c) := fun r r' h => by
  have h1 := congrArg Fin.val h
  simp only [peer] at h1
  have hc : c.val < 16 := c.isLt
  exact Fin.ext (by omega)
theorem peer_surj : ∀ (c d : Dev nD), d ≠ c → ∃ r, peer c r = d := by decide +kernel

/-- All devices but one are its fifteen peers. -/
theorem erase_eq_map (c : Dev nD) : Finset.univ.erase c = Finset.univ.map ⟨peer c, peer_inj c⟩ := by
  ext d
  simp only [Finset.mem_erase, Finset.mem_univ, and_true, Finset.mem_map, true_and, Function.Embedding.coeFn_mk]
  exact ⟨fun h => peer_surj c d h, fun ⟨r, h⟩ => h ▸ peer_ne c r⟩

/-- A family over all devices but one, listed by distance. -/
theorem bigSep_peers (c : Dev nD) (Φ : Dev nD → sProp 𝕄) :
    bigSep (Finset.univ.erase c) Φ = bigSepL l15 fun r => Φ (peer c r) := by
  rw [erase_eq_map, bigSep_map, bigSep_univ_eq_bigSepL l15 (by decide) (by decide)]; rfl

/-- A family over all devices: one of them, and its peers. -/
theorem bigSep_self_peers (c : Dev nD) (Φ : Dev nD → sProp 𝕄) :
    bigSep Finset.univ Φ = iprop(Φ c ∗ bigSepL l15 fun r => Φ (peer c r)) := by
  rw [bigSep_univ_at Φ c, bigSep_peers]

/-- A family over all devices, listed. -/
theorem bigSep_all (Φ : Dev nD → sProp 𝕄) : bigSep Finset.univ Φ = bigSepL l16 Φ :=
  bigSep_univ_eq_bigSepL (I := Fin 16) l16 (by decide) (by decide) Φ

/-! ## Slots and row blocks -/

/-- Slot `s` of the gathered blocks; -/
abbrev slotI (s : Dev nD) : Memref sig .tc .vmem S128x128 .bf16 := slotM ![s.val, 0, 0] (inbSlot s.val s.isLt)

theorem inbRowsX (n : ℕ) (h : n < 16) : ∀ a, (![128 * n, 0] : Fin 2 → ℕ) a + S128x128.size a ≤ S2048x128.size a := by
  intro a; fin_cases a
  · show 128 * n + 128 ≤ 2048; omega
  · exact Nat.le_refl 128
/-- row block `d` of the copy of `x`. -/
abbrev rowsI (d : Dev nD) : Memref sig .tc .vmem S128x128 .bf16 := rowsM ![128 * d.val, 0] (inbRowsX d.val d.isLt)

/-- The credit of one block. -/
abbrev N : ℕ := (slotI 0).view.dmaCredit
theorem N_pos : 0 < N := View.dmaCredit_pos _ (by decide)
theorem credit_slot (o h) : (slotM o h).view.dmaCredit = N := rfl
theorem credit_rows (o h) : (rowsM o h).view.dmaCredit = N := rfl

/-- The elements of slot `s`; -/
def slotSet (s : Dev nD) : Finset S16x128x128.Idx := (slotI s).view.set
/-- of row block `d`. -/
def rowSet (d : Dev nD) : Finset S2048x128.Idx := (rowsI d).view.set

theorem mem_slot (s : Dev nD) (i : S16x128x128.Idx) : i ∈ slotSet s ↔ (i 0).val = s.val := by
  rw [show slotSet s = ((View.whole cc0_scratch2).slice (Rect.unit (s := S16x128x128) ![s.val, 0, 0] S1x128x128.size (inbSlot s.val s.isLt))).set
    from View.set_reshape _ _]
  refine ValueKit.mem_set_slice_whole_iff cc0_scratch2 _ i (Rect.mem_set_unit.trans ⟨fun h => ?_, fun h a => ?_⟩)
  · obtain ⟨h1, h2⟩ := h 0
    replace h1 : s.val ≤ (i 0).val := h1
    replace h2 : (i 0).val < s.val + 1 := h2
    omega
  · match a with
    | ⟨0, _⟩ => exact ⟨h.ge, by show (i 0).val < s.val + 1; omega⟩
    | ⟨1, _⟩ => exact ⟨Nat.zero_le _, by show (i 1).val < 0 + 128; have : (i 1).val < 128 := (i 1).isLt; omega⟩
    | ⟨2, _⟩ => exact ⟨Nat.zero_le _, by show (i 2).val < 0 + 128; have : (i 2).val < 128 := (i 2).isLt; omega⟩

theorem mem_rows (d : Dev nD) (i : S2048x128.Idx) : i ∈ rowSet d ↔ (i 0).val / 128 = d.val := by
  refine ValueKit.mem_set_slice_whole_iff cc0_scratch0 _ i (Rect.mem_set_unit.trans ⟨fun h => ?_, fun h a => ?_⟩)
  · obtain ⟨h1, h2⟩ := h 0
    replace h1 : 128 * d.val ≤ (i 0).val := h1
    replace h2 : (i 0).val < 128 * d.val + 128 := h2
    omega
  · match a with
    | ⟨0, _⟩ => exact ⟨by show 128 * d.val ≤ (i 0).val; omega, by show (i 0).val < 128 * d.val + 128; omega⟩
    | ⟨1, _⟩ => exact ⟨Nat.zero_le _, by show (i 1).val < 0 + 128; have : (i 1).val < 128 := (i 1).isLt; omega⟩

/-- A family of sets that meets every element is everything. -/
theorem cover {I T : Type} [Fintype T] [Fintype I] [DecidableEq I] (K : T → Finset I) (h : ∀ i, ∃ t, i ∈ K t) :
    Finset.univ.biUnion K = Finset.univ := by
  ext i
  simp only [Finset.mem_biUnion, Finset.mem_univ, true_and, iff_true]
  exact h i

/-- Every element is in a slot, and the slots do not overlap; -/
theorem slots_cover (i : S16x128x128.Idx) : ∃ s, i ∈ slotSet s := ⟨i 0, (mem_slot _ i).mpr rfl⟩
theorem slots_disjoint : ∀ s ∈ (Finset.univ : Finset (Dev nD)), ∀ s' ∈ (Finset.univ : Finset (Dev nD)), s ≠ s' →
    Disjoint (slotSet s) (slotSet s') := fun s _ s' _ h =>
  Finset.disjoint_left.mpr fun i hi hi' => h (Fin.ext (((mem_slot s i).mp hi).symm.trans ((mem_slot s' i).mp hi')))

/-- and so for the row blocks. -/
theorem rows_cover (i : S2048x128.Idx) : ∃ d, i ∈ rowSet d := by
  have h : (i 0).val < 2048 := (i 0).isLt
  exact ⟨⟨(i 0).val / 128, by show (i 0).val / 128 < 16; omega⟩, (mem_rows _ i).mpr rfl⟩
theorem rows_disjoint : ∀ s ∈ (Finset.univ : Finset (Dev nD)), ∀ s' ∈ (Finset.univ : Finset (Dev nD)), s ≠ s' →
    Disjoint (rowSet s) (rowSet s') := fun s _ s' _ h =>
  Finset.disjoint_left.mpr fun i hi hi' => h (Fin.ext (((mem_rows s i).mp hi).symm.trans ((mem_rows s' i).mp hi')))

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s staged block of `x`, and its staged `w`; -/
def xstg (c : Dev nD) : S2048x128.Idx → Elt F .bf16 :=
  (win0_0.blk (0 : Fin 1)).view.read (Elt F) ((s₀ m ρ).mem ((c : Thread nD τ).loc main_arg0))
def wstg (c : Dev nD) : S2048x2048.Idx → Elt F .bf16 :=
  (win0_1.blk (0 : Fin 1)).view.read (Elt F) ((s₀ m ρ).mem ((c : Thread nD τ).loc main_arg1))

/-- the kernel's copies of them. -/
def xbv (c : Dev nD) : S2048x128.Idx → Elt F .bf16 := k0_pay1 (xstg m ρ c)
def wbv (c : Dev nD) : S2048x2048.Idx → Elt F .bf16 := k0_pay2 (wstg m ρ c)

/-- Row `j` of row block `p`, as a row of the whole block. -/
def rowOf (p : Dev nD) (j : Fin 128) : Fin 2048 := ⟨128 * p.val + j.val, by have : p.val < 16 := p.isLt; omega⟩

/-- The gathered blocks of device `p`, complete: slot `s` holds row block `p` of device `s`'s `x`. -/
def gat (p : Dev nD) : S16x128x128.Idx → Elt F .bf16 := fun i => xbv m ρ (i 0) (ix2 (rowOf p (i 1)) (i 2))

/-- Slot `s` of device `p`'s complete gathered blocks is row block `p` of device `s`'s `x`. -/
theorem read_slot_gat (p s : Dev nD) :
    (slotI s).view.read (Elt F) (gat m ρ p) = (rowsI p).view.read (Elt F) (xbv m ρ s) := by
  funext j
  obtain ⟨a, b, rfl⟩ : ∃ a b : Fin 128, j = ix2 a b := ⟨j 0, j 1, eq_ix2 j⟩
  have h0 : (Rect.unit (s := S16x128x128) ![s.val, 0, 0] S1x128x128.size (inbSlot s.val s.isLt)).emb
      (Shape.reshapeEquiv squeezes_S1x128x128_S128x128.numel_eq (ix2 a b)) = ix3 (n0 := 16) (n1 := 128) (n2 := 128) s a b := by
    rw [show Shape.reshapeEquiv squeezes_S1x128x128_S128x128.numel_eq (ix2 a b) = ix3 (⟨0, Nat.one_pos⟩ : Fin 1) a b from reshapeEquiv_ix2_1ab _ a b]
    funext x; apply Fin.ext; rw [ValueKit.rect_emb_unit_val]
    match x with
    | ⟨0, _⟩ => rfl
    | ⟨1, _⟩ => exact Nat.zero_add _
    | ⟨2, _⟩ => exact Nat.zero_add _
  have h1 : (Rect.unit (s := S2048x128) ![128 * p.val, 0] S128x128.size (inbRowsX p.val p.isLt)).emb (ix2 a b)
      = ix2 (n0 := 2048) (n1 := 128) (rowOf p a) b := by
    funext x; apply Fin.ext; rw [ValueKit.rect_emb_unit_val]
    match x with
    | ⟨0, _⟩ => rfl
    | ⟨1, _⟩ => exact Nat.zero_add _
  exact (congrArg (gat m ρ p) h0).trans (congrArg (xbv m ρ s) h1).symm

/-- A transfer of row block `p` of device `s`'s `x` into slot `s` leaves there what the complete gathered blocks of `p` hold. -/
theorem landed (p s : Dev nD) (fd : S16x128x128.Idx → Elt F .bf16) :
    ∀ i ∈ slotSet s, (slotI s).view.write (Elt F) fd ((rowsI p).view.read (Elt F) (xbv m ρ s)) Finset.univ i = gat m ρ p i := by
  intro i hi
  obtain ⟨x, -, rfl⟩ := Finset.mem_map.mp hi
  rw [View.write_emb_of_mem _ _ (Finset.mem_univ x), ← read_slot_gat m ρ p s]
  rfl

/-! ## The blocks held -/

/-- Slot `s` of device `p`, at contents `f`; -/
def slotPts (p s : Dev nD) (f : S16x128x128.Idx → Elt F .bf16) : sProp 𝕄 :=
  (p : Thread nD τ).loc cc0_scratch2 ↦[slotSet s]{fullShare} f
/-- row block `d` of device `p`, at contents `f`. -/
def rowPts (p d : Dev nD) (f : S2048x128.Idx → Elt F .bf16) : sProp 𝕄 :=
  (p : Thread nD τ).loc cc0_scratch0 ↦[rowSet d]{fullShare} f

/-- the same, as the memrefs the transfers name see them. -/
theorem slotPts_eq (p s : Dev nD) (f : S16x128x128.Idx → Elt F .bf16) :
    (slotPts p s f : sProp 𝕄) = ((slotI s).view.loc (p : Thread nD τ) ↦[(slotI s).view.set]{fullShare} f) := rfl
theorem rowPts_eq (p d : Dev nD) (f : S2048x128.Idx → Elt F .bf16) :
    (rowPts p d f : sProp 𝕄) = ((rowsI d).view.loc (p : Thread nD τ) ↦[(rowsI d).view.set]{fullShare} f) := rfl

instance slotPts_storable (p s : Dev nD) (f) : BI.Storable (upEmb : UEmb _ 𝕄) (slotPts (F := F) p s f) := by unfold slotPts; infer_instance
instance rowPts_storable (p d : Dev nD) (f) : BI.Storable (upEmb : UEmb _ 𝕄) (rowPts (F := F) p d f) := by unfold rowPts; infer_instance

/-- The sixteen slots are the buffer; -/
theorem slots_split (p : Dev nD) (f : S16x128x128.Idx → Elt F .bf16) :
    ((p : Thread nD τ).loc cc0_scratch2 ↦{fullShare} f : sProp 𝕄) = bigSep Finset.univ fun s => slotPts p s f := by
  unfold slotPts
  refine Eq.trans ?_ (pointsTo_biUnion (ℓ := (p : Thread nD τ).loc cc0_scratch2) (q := fullShare) (f := f) Finset.univ slotSet slots_disjoint)
  exact congrArg (fun S : Finset (Idx ((p : Thread nD τ).loc cc0_scratch2)) => ((p : Thread nD τ).loc cc0_scratch2 ↦[S]{fullShare} f : sProp 𝕄))
    (cover slotSet slots_cover).symm
/-- the sixteen row blocks are the copy of `x`. -/
theorem rows_split (p : Dev nD) (f : S2048x128.Idx → Elt F .bf16) :
    ((p : Thread nD τ).loc cc0_scratch0 ↦{fullShare} f : sProp 𝕄) = bigSep Finset.univ fun d => rowPts p d f := by
  unfold rowPts
  refine Eq.trans ?_ (pointsTo_biUnion (ℓ := (p : Thread nD τ).loc cc0_scratch0) (q := fullShare) (f := f) Finset.univ rowSet rows_disjoint)
  exact congrArg (fun S : Finset (Idx ((p : Thread nD τ).loc cc0_scratch0)) => ((p : Thread nD τ).loc cc0_scratch0 ↦[S]{fullShare} f : sProp 𝕄))
    (cover rowSet rows_cover).symm

end Cert.AllToAll

end
-- ==== Proof.Protocol.lean ====
/-
The protocol of the exchange. Every device has thirty-four semaphore cells: the barrier semaphore, sixteen
send semaphores, sixteen receive semaphores (one per device of origin) and the semaphore of the local copy.
Each cell has at most one round: the barrier cell fifteen duties of one unit, one for every other device,
that device's slot for the owner's block handed over with it; a receive cell one duty, paid by the
transfer, handing over the filled slot; a send cell one duty, handing back the row block; the local cell
one duty, handing over the own slot and the own row block.
-/
module

public import proofs.«01_k».proof.Proof.Blocks

@[expose] public section

set_option maxRecDepth 65536

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The send semaphore of the transfer to the device `1 + r` places on, the receive semaphore of device `s`'s block, the local copy's. -/
abbrev sendS (r : Fin 15) : DmaSem sig := semAt cc0_scratch3 ![1 + r.val] (inb16 _ (by omega))
abbrev recvS (s : Dev nD) : DmaSem sig := semAt cc0_scratch4 ![s.val] (inb16 _ s.isLt)
abbrev locS : DmaSem sig := cc0_scratch5.sem

/-- What a semaphore is for. -/
inductive Role
  | bar | send (k : Fin 16) | recv (s : Dev nD) | loc | other
deriving DecidableEq

/-- A semaphore's role, by its number. -/
def role : SemLoc sig → Role
  | .reg _ => .bar
  | .dma q => if h : q.val < 3 then .other else if h : q.val < 19 then .send ⟨q.val - 3, by omega⟩
      else if h : q.val < 35 then .recv ⟨q.val - 19, by show q.val - 19 < 16; omega⟩ else .loc

theorem role_bar (s : Sem sig) : role (.reg s) = .bar := rfl
theorem role_send : ∀ r : Fin 15, role (.dma (sendS r)) = .send r.succ := by decide +kernel
theorem role_recv : ∀ s : Dev nD, role (.dma (recvS s)) = .recv s := by decide +kernel
theorem role_loc : role (.dma locS) = .loc := by decide +kernel

abbrev barCell (c : Dev nD) : GSem nD τ sig := ((c : Thread nD τ), .reg barS)
abbrev sendCell (c : Dev nD) (r : Fin 15) : GSem nD τ sig := ((c : Thread nD τ), .dma (sendS r))
abbrev recvCell (c s : Dev nD) : GSem nD τ sig := ((c : Thread nD τ), .dma (recvS s))
abbrev locCell (c : Dev nD) : GSem nD τ sig := ((c : Thread nD τ), .dma locS)

/-- The kernel's own semaphores, numbered; -/
def osem (k : Fin 33) : SemLoc sig := .dma ⟨3 + k.val, by show 3 + k.val < 36; omega⟩
/-- and with them the barrier semaphore. -/
def csem (k : Fin 34) : SemLoc sig := if h : k.val < 33 then osem ⟨k.val, h⟩ else .reg barS
/-- All the cells of the exchange. -/
def kcell (ck : Dev nD × Fin 34) : GSem nD τ sig := ((ck.1 : Thread nD τ), csem ck.2)

/-- The cells' numbers. -/
def kSend (r : Fin 15) : Fin 34 := ⟨1 + r.val, by omega⟩
def kRecv (s : Dev nD) : Fin 34 := ⟨16 + s.val, by have : s.val < 16 := s.isLt; omega⟩
theorem csem_send : ∀ r, csem (kSend r) = .dma (sendS r) := by decide +kernel
theorem csem_recv : ∀ s, csem (kRecv s) = .dma (recvS s) := by decide +kernel
theorem csem_loc : csem 32 = .dma locS := by decide +kernel
theorem csem_bar : csem 33 = .reg barS := by decide +kernel
theorem csem_inj : Function.Injective csem := by
  intro k k'; revert k k'; decide +kernel

theorem kcell_send (c : Dev nD) (r : Fin 15) : kcell (c, kSend r) = sendCell c r := by unfold kcell; rw [csem_send]
theorem kcell_recv (c s : Dev nD) : kcell (c, kRecv s) = recvCell c s := by unfold kcell; rw [csem_recv]
theorem kcell_loc (c : Dev nD) : kcell (c, 32) = locCell c := by unfold kcell; rw [csem_loc]
theorem kcell_bar (c : Dev nD) : kcell (c, 33) = barCell c := by unfold kcell; rw [csem_bar]

theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]

/-! ## The schedule -/

/-- A barrier cell's payload from device `d`: that device's slot for the owner `p`; -/
def barPay (p d : Dev nD) : sProp 𝕄 := iprop(∃ f, slotPts d p f)
/-- the local cell's: the own slot filled, the own row block back. -/
def locPay (p : Dev nD) : sProp 𝕄 := iprop(slotPts p p (gat m ρ p) ∗ rowPts p p (xbv m ρ p))

/-- The device `k` places on, as the send cells count. -/
def onward (c : Dev nD) (k : Fin 16) : Dev nD := ⟨(c.val + k.val) % 16, Nat.mod_lt _ (by decide)⟩
theorem onward_succ (c : Dev nD) (r : Fin 15) : onward c r.succ = peer c r := by
  apply Fin.ext; show (c.val + (r.val + 1)) % 16 = (c.val + (1 + r.val)) % 16; rw [Nat.add_comm r.val 1]

/-- The duties of a cell's one round. -/
def dutiesAt (p : Dev nD) : Role → Finset (Dev nD)
  | .bar => Finset.univ.erase p
  | .send k => if k = 0 then ∅ else {0}
  | .recv s => if s = p then ∅ else {0}
  | .loc => {0}
  | .other => ∅
/-- What a duty of device `p`'s cell hands over. -/
def payAt (p d : Dev nD) : Role → sProp 𝕄
  | .bar => barPay p d
  | .send k => rowPts p (onward p k) (xbv m ρ p)
  | .recv s => slotPts p s (gat m ρ p)
  | .loc => locPay m ρ p
  | .other => iprop(emp)

/-- The exchange's schedule. -/
def sched : Rounds.Schedule (GSem nD τ sig) (Dev nD) 𝕄 where
  duties g r := if r = 0 ∧ g.1.2 = .tc then dutiesAt g.1.1 (role g.2) else ∅
  unitless _ := False
  amount g _ _ := if role g.2 = .bar then 1 else N
  payload g _ d := payAt m ρ g.1.1 d (role g.2)
  amount_pos g _ _ _ := by
    by_cases h : role g.2 = .bar
    · rw [if_pos h]; exact Nat.one_pos
    · rw [if_neg h]; exact N_pos

instance sched_payload_storable (g : GSem nD τ sig) (r : ℕ) (d : Dev nD) :
    BI.Storable (upEmb : UEmb _ 𝕄) ((sched (F := F) m ρ).payload g r d) := by
  show BI.Storable upEmb (payAt m ρ g.1.1 d (role g.2))
  cases role g.2 <;> unfold payAt <;> (try unfold barPay) <;> (try unfold locPay) <;> infer_instance

section Sched
variable (c s : Dev nD) (r : Fin 15) (d : Dev nD)

theorem duties_tc (sm : SemLoc sig) : (sched (F := F) m ρ).duties ((c : Thread nD τ), sm) 0 = dutiesAt c (role sm) := by
  dsimp only [sched]; exact if_pos ⟨rfl, rfl⟩
theorem duties_bar : (sched (F := F) m ρ).duties (barCell c) 0 = Finset.univ.erase c := by rw [duties_tc]; rfl
theorem duties_send : (sched (F := F) m ρ).duties (sendCell c r) 0 = {0} := by
  rw [duties_tc, role_send]; show (if r.succ = 0 then (∅ : Finset (Dev nD)) else {0}) = {0}; exact if_neg (Fin.succ_ne_zero r)
theorem duties_recv (h : s ≠ c) : (sched (F := F) m ρ).duties (recvCell c s) 0 = {0} := by
  rw [duties_tc, role_recv]; exact if_neg h
theorem duties_recv_self : (sched (F := F) m ρ).duties (recvCell c c) 0 = ∅ := by
  rw [duties_tc, role_recv]; exact if_pos rfl
theorem duties_loc : (sched (F := F) m ρ).duties (locCell c) 0 = {0} := by rw [duties_tc, role_loc]; rfl
theorem duties_zero : (sched (F := F) m ρ).duties (kcell (c, 0)) 0 = ∅ := by
  show (sched (F := F) m ρ).duties ((c : Thread nD τ), csem 0) 0 = ∅
  rw [duties_tc, show role (csem 0) = .send 0 from by decide +kernel]; rfl
theorem duties_later (g : GSem nD τ sig) : ∀ r, 1 ≤ r → (sched (F := F) m ρ).duties g r = ∅ :=
  fun r hr => by dsimp only [sched]; exact if_neg fun h => by omega

theorem amount_bar : (sched (F := F) m ρ).amount (barCell c) 0 d = 1 := by dsimp only [sched]; exact if_pos rfl
theorem amount_send : (sched (F := F) m ρ).amount (sendCell c r) 0 d = N := by
  dsimp only [sched]; exact if_neg (by rw [role_send]; exact fun h => by cases h)
theorem amount_recv : (sched (F := F) m ρ).amount (recvCell c s) 0 d = N := by
  dsimp only [sched]; exact if_neg (by rw [role_recv]; exact fun h => by cases h)
theorem amount_loc : (sched (F := F) m ρ).amount (locCell c) 0 d = N := by
  dsimp only [sched]; exact if_neg (by rw [role_loc]; exact fun h => by cases h)

theorem expect_bar : (sched (F := F) m ρ).expect (barCell c) 0 = 15 := by
  unfold Schedule.expect Schedule.amountOf
  rw [duties_bar, Finset.sum_congr rfl fun d _ => amount_bar m ρ c d, Finset.sum_const, Finset.card_erase_of_mem (Finset.mem_univ _), Finset.card_univ]
  rfl
theorem expect_send : (sched (F := F) m ρ).expect (sendCell c r) 0 = N := by
  unfold Schedule.expect Schedule.amountOf; rw [duties_send, Finset.sum_singleton, amount_send]
theorem expect_recv (h : s ≠ c) : (sched (F := F) m ρ).expect (recvCell c s) 0 = N := by
  unfold Schedule.expect Schedule.amountOf; rw [duties_recv m ρ c s h, Finset.sum_singleton, amount_recv]
theorem expect_loc : (sched (F := F) m ρ).expect (locCell c) 0 = N := by
  unfold Schedule.expect Schedule.amountOf; rw [duties_loc, Finset.sum_singleton, amount_loc]

theorem payload_bar : (sched (F := F) m ρ).payload (barCell c) 0 d = barPay c d := rfl
theorem payload_send : (sched (F := F) m ρ).payload (sendCell c r) 0 d = rowPts c (peer c r) (xbv m ρ c) := by
  dsimp only [sched]; rw [role_send]; dsimp only [payAt]; rw [onward_succ]
theorem payload_recv : (sched (F := F) m ρ).payload (recvCell c s) 0 d = slotPts c s (gat m ρ c) := by
  dsimp only [sched]; rw [role_recv]; rfl
theorem payload_loc : (sched (F := F) m ρ).payload (locCell c) 0 d = locPay m ρ c := by
  dsimp only [sched]; rw [role_loc]; rfl

/-- What the barrier wait receives: this device's slot of every peer. -/
theorem rest_bar : bigSep ((sched (F := F) m ρ).duties (barCell c) 0 \ ∅) (fun d => (sched (F := F) m ρ).payload (barCell c) 0 d)
    = bigSepL l15 fun r => barPay c (peer c r) := by
  rw [Finset.sdiff_empty, duties_bar, bigSep_congr (fun d _ => payload_bar m ρ c d), bigSep_peers]
theorem rest_send : bigSep ((sched (F := F) m ρ).duties (sendCell c r) 0 \ ∅) (fun d => (sched (F := F) m ρ).payload (sendCell c r) 0 d)
    = rowPts c (peer c r) (xbv m ρ c) := by
  rw [Finset.sdiff_empty, duties_send, bigSep_singleton, payload_send]
theorem rest_recv (h : s ≠ c) : bigSep ((sched (F := F) m ρ).duties (recvCell c s) 0 \ ∅) (fun d => (sched (F := F) m ρ).payload (recvCell c s) 0 d)
    = slotPts c s (gat m ρ c) := by
  rw [Finset.sdiff_empty, duties_recv m ρ c s h, bigSep_singleton, payload_recv]
theorem rest_loc : bigSep ((sched (F := F) m ρ).duties (locCell c) 0 \ ∅) (fun d => (sched (F := F) m ρ).payload (locCell c) 0 d)
    = locPay m ρ c := by
  rw [Finset.sdiff_empty, duties_loc, bigSep_singleton, payload_loc]

end Sched

/-! ## What a device owes, and the levels -/

/-- A list of debts, the head the last summand. -/
def owesL (f : Fin 15 → CellTallies nD τ sig Unit) : List (Fin 15) → CellTallies nD τ sig Unit
  | [] => 0
  | r :: l => owesL f l + f r

/-- The barrier unit owed to the device `1 + r` places on, and the block owed to it. -/
def debtBar (c : Dev nD) (r : Fin 15) : CellTallies nD τ sig Unit := tallyAt (barCell (peer c r)) () 1
def debtRecv (c : Dev nD) (r : Fin 15) : CellTallies nD τ sig Unit := tallyAt (recvCell (peer c r) c) () N
/-- What device `c` owes at launch. -/
def O₀ (c : Dev nD) : CellTallies nD τ sig Unit := owesL (debtRecv c) l15 + owesL (debtBar c) l15

theorem owesL_apply (f : Fin 15 → CellTallies nD τ sig Unit) (l : List (Fin 15)) (g : GSem nD τ sig) (u : Unit) :
    owesL f l g u = (l.map fun r => f r g u).sum := by
  induction l with
  | nil => rfl
  | cons r l ih => unfold owesL; rw [Pi.add_apply, Finsupp.add_apply, ih, List.map_cons, List.sum_cons, Nat.add_comm]

/-- A positive debt of a list is one of its members'. -/
theorem owesL_pos {f : Fin 15 → CellTallies nD τ sig Unit} {l : List (Fin 15)} {g : GSem nD τ sig} {u : Unit} (h : 0 < owesL f l g u) :
    ∃ r, 0 < f r g u := by
  induction l with
  | nil => exact absurd h (Nat.lt_irrefl 0)
  | cons r l ih =>
    unfold owesL at h
    rw [Pi.add_apply, Finsupp.add_apply] at h
    by_cases hr : 0 < f r g u
    · exact ⟨r, hr⟩
    · exact ih (by omega)

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- Barrier cells at level 1, receive cells at 2, all others at 0. -/
def lvOf : Role → ℕ
  | .bar => 1 | .recv _ => 2 | _ => 0
def L (g : GSem nD τ sig) : Finset Unit := if g.1.2 = .tc then {()} else ∅
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_recv (c s : Dev nD) (u : Unit) : lv (recvCell c s) u = 2 := by unfold lv; rw [role_recv]; rfl
theorem lv_bar (c : Dev nD) (u : Unit) : lv (barCell c) u = 1 := rfl

theorem O₀_pos {c : Dev nD} {g : GSem nD τ sig} {u : Unit} (h : 0 < O₀ c g u) :
    (∃ d s, g = recvCell d s) ∨ ∃ d, g = barCell d := by
  unfold O₀ at h
  rw [Pi.add_apply, Finsupp.add_apply] at h
  by_cases h1 : 0 < owesL (debtRecv c) l15 g u
  · obtain ⟨r, hr⟩ := owesL_pos h1; exact .inl ⟨_, _, tally_pos hr⟩
  · obtain ⟨r, hr⟩ := owesL_pos (f := debtBar c) (l := l15) (g := g) (u := u) (by omega); exact .inr ⟨_, tally_pos hr⟩

/-- A wait on a staging semaphore may proceed whatever the device owes of the exchange. -/
theorem mayWait_stage (c : Dev nD) (q : DmaSem sig) (hq : lvOf (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; show lvOf (role (.dma q)) ≤ 0; rw [hq])
      (fun g u hg => by
        rcases O₀_pos hg with ⟨d, s, rfl⟩ | ⟨d, rfl⟩
        · rw [lv_recv]; decide
        · rw [lv_bar]; decide)
  · rw [MayWait_zero]; iintro -; iempintro

/-- The barrier wait may proceed while the blocks are owed: receive cells lie above barrier cells. -/
theorem mayWait_bar (c : Dev nD) :
    (levAts L lv : sProp 𝕄) ⊢ MayWait (c : Thread nD τ) (.reg barS) () (owesL (debtRecv c) l15) :=
  MayOwe.of_cut (L := L) (lev := lv) 1 (fun p hp => by rw [Finset.mem_singleton.mp hp, L_tc]; exact Finset.mem_singleton_self _)
    (fun g u hg => by obtain ⟨r, hr⟩ := owesL_pos hg; rw [tally_pos hr, L_tc]; exact Finset.mem_singleton_self _)
    (fun p hp => by rw [Finset.mem_singleton.mp hp]; exact (lv_bar c _).le)
    (fun g u hg => by obtain ⟨r, hr⟩ := owesL_pos hg; rw [tally_pos hr, lv_recv]; decide)

/-! ## The state the devices start from -/

/-- The invariants of all the cells, and that round 0 of each is reached. -/
def records (K : Dev nD × Fin 34 → ℕ) : sProp 𝕄 :=
  iprop((bigSep Finset.univ fun ck : Dev nD × Fin 34 => cellInv ER (sched m ρ) (K ck) (kcell ck))
    ∗ bigSep Finset.univ fun ck : Dev nD × Fin 34 => reached ER (kcell ck) 0)

instance records_persistent (K : Dev nD × Fin 34 → ℕ) : BI.Persistent (records (F := F) m ρ K) := by unfold records; infer_instance

theorem inv_at (K : Dev nD × Fin 34 → ℕ) (ck : Dev nD × Fin 34) : records m ρ K ⊢ (cellInv ER (sched m ρ) (K ck) (kcell ck) : sProp 𝕄) := by
  have h : (bigSep Finset.univ fun ck : Dev nD × Fin 34 => (cellInv ER (sched m ρ) (K ck) (kcell ck) : sProp 𝕄)) ⊢ cellInv ER (sched m ρ) (K ck) (kcell ck) :=
    bigSep_elim (Finset.mem_univ ck)
  unfold records
  iintro ⟨HI, -⟩
  iapply h; iexact HI
theorem reached_at (K : Dev nD × Fin 34 → ℕ) (ck : Dev nD × Fin 34) : records m ρ K ⊢ (reached ER (kcell ck) 0 : sProp 𝕄) := by
  have h : (bigSep Finset.univ fun ck : Dev nD × Fin 34 => (reached ER (kcell ck) 0 : sProp 𝕄)) ⊢ reached ER (kcell ck) 0 :=
    bigSep_elim (Finset.mem_univ ck)
  unfold records
  iintro ⟨-, HR⟩
  iapply h; iexact HR

/-- A device's positions at its cells, each at round 0. -/
def positions (c : Dev nD) : sProp 𝕄 := bigSep Finset.univ fun k : Fin 34 => atPos ER (kcell (c, k)) 0 ∅ 0

/-- The tokens device `c` pays with: for every peer a barrier unit, the block, and the send; and the local copy. -/
def payToks (c : Dev nD) : sProp 𝕄 :=
  iprop((bigSepL l15 fun r => dutyTok ER (barCell (peer c r)) 0 c)
    ∗ (bigSepL l15 fun r => dutyTok ER (recvCell (peer c r) c) 0 0)
    ∗ (bigSepL l15 fun r => dutyTok ER (sendCell c r) 0 0)
    ∗ dutyTok ER (locCell c) 0 0)

/-- The exchange's state device `c` starts from. -/
def ghost (K : Dev nD × Fin 34 → ℕ) (c : Dev nD) : sProp 𝕄 := iprop(records m ρ K ∗ positions c ∗ payToks c)

/-- The credits it starts with: fifteen barrier units and fifteen blocks. -/
def credits (c : Dev nD) : sProp 𝕄 :=
  iprop(cred (tallyAt (barCell c) () 15) ∗ bigSep (Finset.univ.erase c) fun s => cred (tallyAt (recvCell c s) () N))

/-- The list of a device's cells the proof walks: the barrier, the sends, the receives, the local copy, the unused send semaphore. -/
theorem positions_eq (c : Dev nD) (Φ : Fin 34 → sProp 𝕄) :
    bigSep Finset.univ Φ = iprop(Φ 33 ∗ (bigSepL l15 fun r => Φ (kSend r)) ∗ (bigSep Finset.univ fun s => Φ (kRecv s)) ∗ Φ 32 ∗ Φ 0) := by
  rw [bigSep_univ_eq_bigSepL ([33] ++ (l15.map kSend ++ (l16.map (fun s => kRecv s) ++ [32, 0]))) (by decide +kernel) (by decide +kernel),
    bigSepL_append, bigSepL_append, bigSepL_append, bigSepL_map, bigSepL_map, bigSep_all]
  rfl

end Cert.AllToAll

end
-- ==== Proof.Steps.lean ====
/-
The steps of the body, each with what it needs and what it gives, for every device and every peer at once.
-/
module

public import proofs.«01_k».proof.Proof.Protocol

@[expose] public section

set_option maxRecDepth 65536

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 34 → ℕ)

abbrev 𝒱₀ : Variants := Variants.none

/-- The weakest precondition of a step on device `c`. -/
abbrev wpB (c : Dev nD) (p : TProg F PUnit) (Q : PUnit → sProp 𝕄) : sProp 𝕄 :=
  wp frame (wpE (defs₀ (F := F)) 𝒱₀ (c : Thread nD τ) none) Set.univ p Q

/-! ## The records of a cell -/

theorem inv_of {ck : Dev nD × Fin 34} {g : GSem nD τ sig} (h : kcell ck = g) : records m ρ K ⊢ (cellInv ER (sched m ρ) (K ck) g : sProp 𝕄) :=
  h ▸ inv_at m ρ K ck
theorem reached_of {ck : Dev nD × Fin 34} {g : GSem nD τ sig} (h : kcell ck = g) : records m ρ K ⊢ (reached ER g 0 : sProp 𝕄) :=
  h ▸ reached_at m ρ K ck

/-! ## A loop -/

/-- A loop over a list, by an invariant `J` of what is left of the list, each turn consuming `Pre` and giving `Post`. -/
theorem wp_each {α : Type} {c : Dev nD} {P : α → TProg F PUnit} {J : List α → sProp 𝕄} {Pre Post : α → sProp 𝕄}
    (hstep : ∀ a l (Q : PUnit → sProp 𝕄), iprop(J (a :: l) ∗ Pre a ∗ ((J l ∗ Post a) -∗ Q ⟨⟩)) ⊢ wpB c (P a) Q) :
    ∀ l (Q : PUnit → sProp 𝕄), iprop(J l ∗ bigSepL l Pre ∗ ((J [] ∗ bigSepL l Post) -∗ Q ⟨⟩)) ⊢ wpB c (each P l) Q := by
  intro l
  induction l with
  | nil =>
    intro Q
    unfold each wpB
    rw [bigSepL_nil, bigSepL_nil, Prog.pure_eq_ret, wp_ret]
    iintro ⟨HJ, -, Hk⟩
    imodintro
    iapply Hk
    isplitl [HJ]; · iexact HJ
    iempintro
  | cons a l ih =>
    intro Q
    unfold each wpB
    rw [bigSepL_cons', bigSepL_cons', wp_bind]
    iintro ⟨HJ, ⟨Ha, Hl⟩, Hk⟩
    iapply (hstep a l)
    isplitl [HJ]; · iexact HJ
    isplitl [Ha]; · iexact Ha
    iintro ⟨HJ, Hp⟩
    iapply (ih Q)
    isplitl [HJ]; · iexact HJ
    isplitl [Hl]; · iexact Hl
    iintro ⟨HJ, Hps⟩
    iapply Hk
    isplitl [HJ]; · iexact HJ
    isplitl [Hp] <;> iassumption

/-! ## Signals and the barrier wait -/

/-- A signal to a peer hands over the own slot for its block. -/
theorem wp_signalP (c : Dev nD) (r : Fin 15) (O : CellTallies nD τ sig Unit) (W : Waits sig Unit) (Q : PUnit → sProp 𝕄) :
    iprop(records m ρ K ∗ owes (c : Thread nD τ) (O + debtBar c r) W ∗ dutyTok ER (barCell (peer c r)) 0 c ∗ (∃ f, slotPts c (peer c r) f)
        ∗ (owes (c : Thread nD τ) O W -∗ Q ⟨⟩))
      ⊢ wpB c (signalP c r) Q := by
  unfold signalP wpB
  rw [peerD_eq]
  simp only [semSignalWord, Prog.lift]
  iintro ⟨#HR, HO, Ht, Hs, Hk⟩
  iapply (Rounds.wp_signal 𝒱₀ ER (sched m ρ) (c : Thread nD τ) none (dst := (peer c r : Thread nD τ)) (κ := K (peer c r, 33))
      (d := c) (by rw [duties_bar]; exact Finset.mem_erase.mpr ⟨(peer_ne c r).symm, Finset.mem_univ _⟩) ((amount_bar m ρ (peer c r) c).trans (by decide)) () O rfl)
    $$ [HO Ht Hs]
  · isplitr; · iapply (inv_of m ρ K (kcell_bar (peer c r))); iexact HR
    isplitl [HO]; · iexact HO
    isplitl [Ht]; · iexact Ht
    isplitl [Hs]; · rw [payload_bar]; unfold barPay; iexact Hs
    iapply (reached_of m ρ K (kcell_bar (peer c r))); iexact HR
  iintro HO
  rw [wp_ret]; imodintro
  iapply Hk; iexact HO

/-- The wait for fifteen on the own barrier cell, the blocks still owed: it gives this device's slot of every peer. -/
theorem wp_barWait (c : Dev nD) (W : Waits sig Unit) (Q : PUnit → sProp 𝕄) :
    iprop(records m ρ K ∗ levAts L lv ∗ cred (tallyAt (barCell c) () 15) ∗ owes (c : Thread nD τ) (owesL (debtRecv c) l15) W ∗ atPos ER (barCell c) 0 ∅ 0
        ∗ ((owes (c : Thread nD τ) (owesL (debtRecv c) l15) (insert (SemLoc.reg barS, ()) W) ∗ atPos ER (barCell c) 1 ∅ 0
            ∗ bigSepL l15 fun r => barPay c (peer c r)) -∗ Q ⟨⟩))
      ⊢ wpB c (semWaitWord barS 15#32) Q := by
  unfold wpB
  simp only [semWaitWord, Prog.lift]
  iintro ⟨#HR, #Hlev, Hc, HO, Hat, Hk⟩
  iapply (Rounds.wp_wait_rest_token 𝒱₀ ER (sched m ρ) (c : Thread nD τ) none (κ := K (c, 33))
      (wpE_semWait_eq 𝒱₀ (c : Thread nD τ) none Set.univ) (Set.mem_univ _) () (O := owesL (debtRecv c) l15) (W := W) (R := 0) (m := 0) (T := ∅)
      (by rw [expect_bar]; decide)) $$ [Hc HO Hat]
  · isplitr; · iapply (inv_of m ρ K (kcell_bar c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  rw [wp_ret]; imodintro
  iapply Hk
  isplitl [HO]; · iexact HO
  isplitl [Hat]; · iexact Hat
  iexact Hp

/-! ## Transfers -/

/-- A slot's amount on a DMA semaphore: one block. -/
theorem amount_slot (o h) (q : DmaSem sig) : (slotM o h).view.amount (.dma q) = N := credit_slot o h

/-- The rule of an addressed transfer, at the two cells it credits. -/
theorem wp_send_rule (c : Dev nD) (r : Fin 15)
    {hsc : (slotI c : Memref sig (Dev.tc (peer c r) : Thread nD τ).2.kind .vmem S128x128 .bf16).view.ref.isScScratch = false}
    {hsrc : (rowsI (peer c r)).view.WordExact} {hdst : (slotI c).view.WordExact}
    {hsem : DmaTarget.Typed .vmem (.dma (recvS c)) (.remote (Dev.tc (peer c r) : Thread nD τ) (slotI c) (.dma (sendS r)) hsc)}
    (O : CellTallies nD τ sig Unit) (W : Waits sig Unit) (Q : PUnit → sProp 𝕄) (k : PUnit → TProg F PUnit) (f : S16x128x128.Idx → Elt F .bf16) :
    iprop(cellInv ER (sched m ρ) (K (c, kSend r)) (sendCell c r) ∗ cellInv ER (sched m ρ) (K (peer c r, kRecv c)) (recvCell (peer c r) c)
        ∗ ((rowsI (peer c r)).view.loc (c : Thread nD τ) ↦[(rowsI (peer c r)).view.set]{fullShare} (xbv m ρ c))
        ∗ ((slotI c).view.loc (peer c r : Thread nD τ) ↦[(slotI c).view.set]{fullShare} f)
        ∗ owes (c : Thread nD τ) (O + debtRecv c r) W
        ∗ dutyTok ER (sendCell c r) 0 0 ∗ reached ER (sendCell c r) 0
        ∗ dutyTok ER (recvCell (peer c r) c) 0 0 ∗ reached ER (recvCell (peer c r) c) 0)
      ⊢ iprop(((cred (tallyAt (sendCell c r) () N) ∗ owes (c : Thread nD τ) O W) -∗ wpB c (k ⟨⟩) Q)
          -∗ wpB c (.op (.enqueueDma (rowsI (peer c r)) (.remote (Dev.tc (peer c r) : Thread nD τ) (slotI c) (.dma (sendS r)) hsc) (.dma (recvS c)) hsrc hdst hsem) k) Q) := by
  have hd₁ : (0 : Dev nD) ∈ (sched m ρ).duties (sendCell c r) 0 := by rw [duties_send]; exact Finset.mem_singleton_self _
  have hd₂ : (0 : Dev nD) ∈ (sched m ρ).duties (recvCell (peer c r) c) 0 := by rw [duties_recv m ρ _ _ (peer_ne c r).symm]; exact Finset.mem_singleton_self _
  have hp₁ : ((rowsI (peer c r)).view.loc (c : Thread nD τ) ↦[(rowsI (peer c r)).view.set]{fullShare} (xbv m ρ c) : sProp 𝕄) ⊢ (sched m ρ).payload (sendCell c r) 0 0 := by
    rw [payload_send, rowPts_eq]
  have hp₂ : ((slotI c).view.loc (peer c r : Thread nD τ) ↦[(slotI c).view.set]{fullShare}
      ((slotI c).view.write (Elt F) f ((rowsI (peer c r)).view.read (Elt F) (xbv m ρ c)) Finset.univ) : sProp 𝕄) ⊢ (sched m ρ).payload (recvCell (peer c r) c) 0 0 := by
    rw [payload_recv, slotPts_eq]; exact Entails.of_eq (pointsTo_congr (landed m ρ (peer c r) c f))
  exact Rounds.wp_send_pointsTo 𝒱₀ ER (sched m ρ) (c : Thread nD τ) none
      hd₁ hd₂ () () N (amount_slot _ _ _) (amount_send m ρ c r 0) (amount_recv m ρ (peer c r) c 0) O rfl hp₁ hp₂

/-- The rule of the local copy, at its cell. -/
theorem wp_local_rule (c : Dev nD)
    {hsrc : (rowsI c).view.WordExact} {hdst : (slotI c).view.WordExact}
    {hsem : DmaTarget.Typed (nD := nD) .vmem (.dma locS) (.here (p := (c : Thread nD τ).2) (slotI c))}
    (Q : PUnit → sProp 𝕄) (k : PUnit → TProg F PUnit) (f : S16x128x128.Idx → Elt F .bf16) :
    iprop(cellInv ER (sched m ρ) (K (c, 32)) (locCell c)
        ∗ ((rowsI c).view.loc (c : Thread nD τ) ↦[(rowsI c).view.set]{fullShare} (xbv m ρ c))
        ∗ ((slotI c).view.loc (c : Thread nD τ) ↦[(slotI c).view.set]{fullShare} f)
        ∗ dutyTok ER (locCell c) 0 0 ∗ reached ER (locCell c) 0)
      ⊢ iprop((cred (tallyAt (locCell c) () N) -∗ wpB c (k ⟨⟩) Q)
          -∗ wpB c (.op (.enqueueDma (rowsI c) (.here (slotI c)) (.dma locS) hsrc hdst hsem) k) Q) := by
  have hd : (0 : Dev nD) ∈ (sched m ρ).duties (locCell c) 0 := by rw [duties_loc]; exact Finset.mem_singleton_self _
  have hp : iprop(((slotI c).view.loc (c : Thread nD τ) ↦[(slotI c).view.set]{fullShare}
      ((slotI c).view.write (Elt F) f ((rowsI c).view.read (Elt F) (xbv m ρ c)) Finset.univ))
        ∗ ((rowsI c).view.loc (c : Thread nD τ) ↦[(rowsI c).view.set]{fullShare} (xbv m ρ c)) : sProp 𝕄) ⊢ (sched m ρ).payload (locCell c) 0 0 := by
    rw [payload_loc]; unfold locPay; rw [slotPts_eq, rowPts_eq]
    exact BIClass.sep_mono (Entails.of_eq (pointsTo_congr (landed m ρ c c f))) (BI.Entails.refl _)
  exact Rounds.wp_copy_pointsTo 𝒱₀ ER (sched m ρ) (c : Thread nD τ) none hd () N (amount_slot _ _ _) (amount_loc m ρ c 0) hp

/-- A transfer of a peer's row block into this device's slot there, the places and the peer given by equations. -/
theorem wp_send_at (c : Dev nD) (r : Fin 15) (n : Dev nD) (hn : n = peer c r)
    (o₁ : Fin 2 → ℕ) (h₁ : ∀ a, o₁ a + S128x128.size a ≤ S2048x128.size a) (e₁ : o₁ = ![128 * (peer c r).val, 0])
    (o₂ : Fin 3 → ℕ) (h₂ : ∀ a, o₂ a + S1x128x128.size a ≤ S16x128x128.size a) (e₂ : o₂ = ![c.val, 0, 0])
    (o₃ : Fin 1 → ℕ) (h₃ : ∀ a, o₃ a + S1.size a ≤ S16.size a) (e₃ : o₃ = ![c.val])
    {hsc : (slotM o₂ h₂ : Memref sig (Dev.tc n : Thread nD τ).2.kind .vmem S128x128 .bf16).view.ref.isScScratch = false}
    {hsrc : (rowsM o₁ h₁).view.WordExact} {hdst : (slotM o₂ h₂).view.WordExact}
    {hsem : DmaTarget.Typed .vmem (.dma (semAt cc0_scratch4 o₃ h₃)) (.remote (Dev.tc n : Thread nD τ) (slotM o₂ h₂) (.dma (sendS r)) hsc)}
    (O : CellTallies nD τ sig Unit) (W : Waits sig Unit) (Q : PUnit → sProp 𝕄) :
    iprop(records m ρ K ∗ owes (c : Thread nD τ) (O + debtRecv c r) W ∗ rowPts c (peer c r) (xbv m ρ c) ∗ (∃ f, slotPts (peer c r) c f)
        ∗ dutyTok ER (recvCell (peer c r) c) 0 0 ∗ dutyTok ER (sendCell c r) 0 0
        ∗ ((cred (tallyAt (sendCell c r) () N) ∗ owes (c : Thread nD τ) O W) -∗ Q ⟨⟩))
      ⊢ wpB c (Prog.lift (.enqueueDma (rowsM o₁ h₁) (.remote (Dev.tc n : Thread nD τ) (slotM o₂ h₂) (.dma (sendS r)) hsc) (.dma (semAt cc0_scratch4 o₃ h₃)) hsrc hdst hsem)) Q := by
  subst hn e₁ e₂ e₃
  unfold wpB
  simp only [Prog.lift]
  iintro ⟨#HR, HO, Hrow, ⟨%f, Hslot⟩, HtV, HtS, Hk⟩
  iapply (wp_send_rule m ρ K c r O W Q .ret f) $$ [HO Hrow Hslot HtV HtS]
  · isplitr; · iapply (inv_of m ρ K (kcell_send c r)); iexact HR
    isplitr; · iapply (inv_of m ρ K (kcell_recv (peer c r) c)); iexact HR
    isplitl [Hrow]; · rw [← rowPts_eq]; iexact Hrow
    isplitl [Hslot]; · rw [← slotPts_eq]; iexact Hslot
    isplitl [HO]; · iexact HO
    isplitl [HtS]; · iexact HtS
    isplitr; · iapply (reached_of m ρ K (kcell_send c r)); iexact HR
    isplitl [HtV]; · iexact HtV
    iapply (reached_of m ρ K (kcell_recv (peer c r) c)); iexact HR
  iintro ⟨HcS, HO⟩
  unfold wpB
  rw [wp_ret]; imodintro
  iapply Hk
  isplitl [HcS] <;> iassumption

/-- The row block of a peer goes to this device's slot there. -/
theorem wp_sendP (c : Dev nD) (r : Fin 15) (O : CellTallies nD τ sig Unit) (W : Waits sig Unit) (Q : PUnit → sProp 𝕄) :
    iprop(records m ρ K ∗ owes (c : Thread nD τ) (O + debtRecv c r) W ∗ rowPts c (peer c r) (xbv m ρ c) ∗ (∃ f, slotPts (peer c r) c f)
        ∗ dutyTok ER (recvCell (peer c r) c) 0 0 ∗ dutyTok ER (sendCell c r) 0 0
        ∗ ((cred (tallyAt (sendCell c r) () N) ∗ owes (c : Thread nD τ) O W) -∗ Q ⟨⟩))
      ⊢ wpB c (sendP c r) Q :=
  wp_send_at m ρ K c r _ (peerD_eq c r) _ _ ((k0_off3_eq c r).trans (by rw [Nat.add_assoc, Nat.add_comm r.val 1]; rfl)) _ _ (k0_off2_eq c) _ _ (k0_off1_eq c) O W Q

/-- The own row block goes to the own slot, the places given by equations. -/
theorem wp_local_at (c : Dev nD)
    (o₁ : Fin 2 → ℕ) (h₁ : ∀ a, o₁ a + S128x128.size a ≤ S2048x128.size a) (e₁ : o₁ = ![128 * c.val, 0])
    (o₂ : Fin 3 → ℕ) (h₂ : ∀ a, o₂ a + S1x128x128.size a ≤ S16x128x128.size a) (e₂ : o₂ = ![c.val, 0, 0])
    {hsrc : (rowsM o₁ h₁).view.WordExact} {hdst : (slotM o₂ h₂).view.WordExact}
    {hsem : DmaTarget.Typed (nD := nD) .vmem (.dma locS) (.here (p := (c : Thread nD τ).2) (slotM o₂ h₂))} (Q : PUnit → sProp 𝕄) :
    iprop(records m ρ K ∗ rowPts c c (xbv m ρ c) ∗ (∃ f, slotPts c c f) ∗ dutyTok ER (locCell c) 0 0 ∗ (cred (tallyAt (locCell c) () N) -∗ Q ⟨⟩))
      ⊢ wpB c (Prog.lift (.enqueueDma (rowsM o₁ h₁) (.here (slotM o₂ h₂)) (.dma locS) hsrc hdst hsem)) Q := by
  subst e₁ e₂
  unfold wpB
  simp only [Prog.lift]
  iintro ⟨#HR, Hrow, ⟨%f, Hslot⟩, Ht, Hk⟩
  iapply (wp_local_rule m ρ K c Q .ret f) $$ [Hrow Hslot Ht]
  · isplitr; · iapply (inv_of m ρ K (kcell_loc c)); iexact HR
    isplitl [Hrow]; · rw [← rowPts_eq]; iexact Hrow
    isplitl [Hslot]; · rw [← slotPts_eq]; iexact Hslot
    isplitl [Ht]; · iexact Ht
    iapply (reached_of m ρ K (kcell_loc c)); iexact HR
  iintro Hc
  unfold wpB
  rw [wp_ret]; imodintro
  iapply Hk; iexact Hc

theorem wp_localP (c : Dev nD) (Q : PUnit → sProp 𝕄) :
    iprop(records m ρ K ∗ rowPts c c (xbv m ρ c) ∗ (∃ f, slotPts c c f) ∗ dutyTok ER (locCell c) 0 0 ∗ (cred (tallyAt (locCell c) () N) -∗ Q ⟨⟩))
      ⊢ wpB c (localP c) Q :=
  wp_local_at m ρ K c _ _ (k0_off4_eq c) _ _ (k0_off2_eq c) Q

/-! ## The waits for the blocks and for the sends -/

/-- What the device owes after its sends: nothing, some waits recorded. -/
def idle (c : Dev nD) : sProp 𝕄 := iprop(∃ W, owes (c : Thread nD τ) 0 W)

/-- What the wait for device `s`'s block needs; -/
def pend (c s : Dev nD) : sProp 𝕄 :=
  if s = c then iprop(cred (tallyAt (locCell c) () N) ∗ atPos ER (locCell c) 0 ∅ 0)
  else iprop(cred (tallyAt (recvCell c s) () N) ∗ atPos ER (recvCell c s) 0 ∅ 0)
/-- the cell it leaves; -/
def past (c s : Dev nD) : sProp 𝕄 :=
  if s = c then iprop(rowPts c c (xbv m ρ c) ∗ atPos ER (locCell c) 1 ∅ 0) else atPos ER (recvCell c s) 1 ∅ 0
/-- and what it gives: the slot filled. -/
def got (c s : Dev nD) : sProp 𝕄 := iprop(slotPts c s (gat m ρ c) ∗ past m ρ c s)

theorem isMe_iff : ∀ c s : Fin 16, isMe c s.val = 1#1 ↔ s = c := by decide +kernel
theorem notMe_iff : ∀ c s : Fin 16, notMe c s.val = 1#1 ↔ s ≠ c := by decide +kernel

theorem whenP_true {p : Prop} [Decidable p] (A : p → TProg F PUnit) (h : p) : whenP p A = A h := dif_pos h
theorem whenP_false {p : Prop} [Decidable p] (A : p → TProg F PUnit) (h : ¬ p) : whenP p A = Prog.ret ⟨⟩ := dif_neg h

/-- The two conditional waits for device `s`'s block: exactly one of them is made. -/
theorem wp_waits (c s : Dev nD) (Q : PUnit → sProp 𝕄) :
    iprop(records m ρ K ∗ idle c ∗ pend c s ∗ ((idle c ∗ got m ρ c s) -∗ Q ⟨⟩))
      ⊢ wpB c (waitOwnP c s) (fun _ => wpB c (waitPeerP c s) Q) := by
  unfold waitOwnP waitPeerP wpB idle pend got past
  by_cases h : s = c
  · subst h
    rw [whenP_true _ ((isMe_iff s s).mpr rfl), whenP_false _ (fun h => (notMe_iff s s).mp h rfl), if_pos rfl, if_pos rfl]
    simp only [Prog.lift]
    iintro ⟨#HR, ⟨%W, HO⟩, ⟨Hc, Hat⟩, Hk⟩
    iapply (Rounds.wp_wait_rest_token 𝒱₀ ER (sched m ρ) (s : Thread nD τ) none (κ := K (s, 32))
        (wpE_waitDma2_eq 𝒱₀ (s : Thread nD τ) none Set.univ) (Set.mem_univ _) () (O := 0) (W := W) (R := 0) (m := 0) (T := ∅)
        (by rw [Nat.zero_add, expect_loc])) $$ [Hc HO Hat]
    · isplitr; · iapply (inv_of m ρ K (kcell_loc s)); iexact HR
      isplitl [Hc]; · iexact Hc
      isplitl [HO]; · iexact HO
      isplitr; · rw [MayWait_zero]; iempintro
      iexact Hat
    iintro ⟨HO, Hat, -, Hpay⟩
    ihave Hp := (Entails.of_eq (rest_loc m ρ s)) $$ Hpay
    unfold locPay
    icases Hp with ⟨Hslot, Hrow⟩
    rw [wp_ret]; imodintro
    rw [wp_ret]; imodintro
    iapply Hk
    isplitl [HO]; · iexists _; iexact HO
    isplitl [Hslot]; · iexact Hslot
    isplitl [Hrow] <;> iassumption
  · rw [whenP_false _ (fun h' => h ((isMe_iff c s).mp h')), whenP_true _ ((notMe_iff c s).mpr h), if_neg h, if_neg h]
    simp only [Prog.lift]
    iintro ⟨#HR, ⟨%W, HO⟩, ⟨Hc, Hat⟩, Hk⟩
    rw [wp_ret]; imodintro
    iapply (Rounds.wp_wait_rest_token 𝒱₀ ER (sched m ρ) (c : Thread nD τ) none (κ := K (c, kRecv s))
        (wpE_waitDma2_eq 𝒱₀ (c : Thread nD τ) none Set.univ) (Set.mem_univ _) () (O := 0) (W := W) (R := 0) (m := 0) (T := ∅)
        (by rw [Nat.zero_add, expect_recv m ρ c s h])) $$ [Hc HO Hat]
    · isplitr; · iapply (inv_of m ρ K (kcell_recv c s)); iexact HR
      isplitl [Hc]; · iexact Hc
      isplitl [HO]; · iexact HO
      isplitr; · rw [MayWait_zero]; iempintro
      iexact Hat
    iintro ⟨HO, Hat, -, Hpay⟩
    ihave Hslot := (Entails.of_eq (rest_recv m ρ c s h)) $$ Hpay
    rw [wp_ret]; imodintro
    iapply Hk
    isplitl [HO]; · iexists _; iexact HO
    isplitl [Hslot] <;> iassumption

/-- The wait for a send: the peer's row block back. -/
theorem wp_sentP (c : Dev nD) (r : Fin 15) (Q : PUnit → sProp 𝕄) :
    iprop(records m ρ K ∗ idle c ∗ (cred (tallyAt (sendCell c r) () N) ∗ atPos ER (sendCell c r) 0 ∅ 0)
        ∗ ((idle c ∗ (rowPts c (peer c r) (xbv m ρ c) ∗ atPos ER (sendCell c r) 1 ∅ 0)) -∗ Q ⟨⟩))
      ⊢ wpB c (sentP c r) Q := by
  unfold sentP wpB idle
  simp only [Prog.lift]
  iintro ⟨#HR, ⟨%W, HO⟩, ⟨Hc, Hat⟩, Hk⟩
  iapply (Rounds.wp_wait_rest_token 𝒱₀ ER (sched m ρ) (c : Thread nD τ) none (κ := K (c, kSend r))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_of m ρ K (kcell_send c r)); iexact HR
    isplitl [Hc]; · iexact Hc
    isplitl [HO]; · iexact HO
    isplitr; · rw [MayWait_zero]; iempintro
    iexact Hat
  iintro ⟨HO, Hat, -, Hpay⟩
  ihave Hrow := (Entails.of_eq (rest_send m ρ c r)) $$ Hpay
  rw [wp_ret]; imodintro
  iapply Hk
  isplitl [HO]; · iexists _; iexact HO
  isplitl [Hrow] <;> iassumption

/-! ## Loads and stores -/

/-- A whole buffer of device `c` at contents `f`. -/
abbrev pts (c : Dev nD) (b : Ref sig .tc) (f : Buf (Elt F) ((c : Thread nD τ).loc b)) : sProp 𝕄 := (c : Thread nD τ).loc b ↦{fullShare} f

theorem hz : (![0, 0] : Fin 2 → Nat) = fun _ => 0 := funext fun a => by fin_cases a <;> rfl

abbrev rX : Rect S2048x128 := Rect.unit (s := S2048x128) ![0, 0] S2048x128.size inb_S2048x128_S2048x128_0_0
abbrev rW : Rect S2048x2048 := Rect.unit (s := S2048x2048) ![0, 0] S2048x2048.size inb_S2048x2048_S2048x2048_0_0
abbrev rO : Rect S128x2048 := Rect.unit (s := S128x2048) ![0, 0] S128x2048.size inb_S128x2048_S128x2048_0_0

/-- Loads and stores of whole buffers. -/
theorem read_x (f : S2048x128.Idx → Elt F .bf16) : (xM : Memref sig .tc .vmem S2048x128 .bf16).view.readAt (Elt F) rX.toLoadRect f = f :=
  Memref.readAt_unit_zero (Elt F) cc0_stg0_0 hz _ f
theorem read_w (f : S2048x2048.Idx → Elt F .bf16) : (wM : Memref sig .tc .vmem S2048x2048 .bf16).view.readAt (Elt F) rW.toLoadRect f = f :=
  Memref.readAt_unit_zero (Elt F) cc0_stg1_0 hz _ f
theorem read_o (f : S128x2048.Idx → Elt F .f32) : (oM : Memref sig .tc .vmem S128x2048 .f32).view.readAt (Elt F) rO.toLoadRect f = f :=
  Memref.readAt_unit_zero (Elt F) cc0_stg2_0 hz _ f
theorem write_xb (f w : S2048x128.Idx → Elt F .bf16) :
    ((xbM : Memref sig .tc .vmem S2048x128 .bf16).access rX : View sig .tc _ _ _).write (Elt F) f w Finset.univ = w :=
  Memref.write_access_unit_zero_univ (Elt F) cc0_scratch0 hz _ f w
theorem write_wb (f w : S2048x2048.Idx → Elt F .bf16) :
    ((wbM : Memref sig .tc .vmem S2048x2048 .bf16).access rW : View sig .tc _ _ _).write (Elt F) f w Finset.univ = w :=
  Memref.write_access_unit_zero_univ (Elt F) cc0_scratch1 hz _ f w
theorem write_o (f w : S128x2048.Idx → Elt F .f32) :
    ((oM : Memref sig .tc .vmem S128x2048 .f32).access rO : View sig .tc _ _ _).write (Elt F) f w Finset.univ = w :=
  Memref.write_access_unit_zero_univ (Elt F) cc0_stg2_0 hz _ f w

/-- The copy of `x`. -/
theorem wp_copyX (c : Dev nD) (Q : PUnit → sProp 𝕄) (f : S2048x128.Idx → Elt F .bf16) :
    iprop(pts c cc0_stg0_0 (xstg m ρ c) ∗ pts c cc0_scratch0 f ∗ ((pts c cc0_stg0_0 (xstg m ρ c) ∗ pts c cc0_scratch0 (xbv m ρ c)) -∗ Q ⟨⟩))
      ⊢ wpB c copyX Q := by
  unfold copyX wpB
  simp only [Prog.lift, Prog.bind_op, Prog.bind_ret]
  iintro ⟨Hx, Hb, Hk⟩
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hb; iintro Hb
  iapply (wp_store 𝒱₀ (c : Thread nD τ) none Set.univ (m := xbM) (r := rX) (Mk := Finset.univ) (Finset.subset_univ _)) $$ Hb; iintro Hb
  rw [wp_ret]; imodintro
  iapply Hk
  isplitl [Hx]; · iexact Hx
  rw [write_xb, read_x]
  iexact Hb

/-- The copy of `w`, and the output block cleared. -/
theorem wp_copyW (c : Dev nD) (Q : PUnit → sProp 𝕄) (f : S2048x2048.Idx → Elt F .bf16) (g : S128x2048.Idx → Elt F .f32) :
    iprop(pts c cc0_stg1_0 (wstg m ρ c) ∗ pts c cc0_scratch1 f ∗ pts c cc0_stg2_0 g
        ∗ ((pts c cc0_stg1_0 (wstg m ρ c) ∗ pts c cc0_scratch1 (wbv m ρ c) ∗ pts c cc0_stg2_0 (k0_pay3 (F := F))) -∗ Q ⟨⟩))
      ⊢ wpB c copyW Q := by
  unfold copyW wpB
  simp only [Prog.lift, Prog.bind_op, Prog.bind_ret]
  iintro ⟨Hw, Hb, Ho, Hk⟩
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hb; iintro Hb
  iapply (wp_store 𝒱₀ (c : Thread nD τ) none Set.univ (m := wbM) (r := rW) (Mk := Finset.univ) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [wp_ret]; imodintro
  iapply Hk
  rw [write_wb, read_w, write_o]
  isplitl [Hw]; · iexact Hw
  isplitl [Hb]; · iexact Hb
  iexact Ho

/-- Device `s`'s block as the accumulation loads it, and the matching rows of `w`. -/
def blockV (c s : Dev nD) : S1x128x128.Idx → Elt F .bf16 :=
  gM.view.readAt (Elt F) (Rect.unit (s := S16x128x128) ![s.val, 0, 0] S1x128x128.size (inbSlot _ s.isLt)).toLoadRect (gat m ρ c)
def wRows (c s : Dev nD) : S128x2048.Idx → Elt F .bf16 :=
  wbM.view.readAt (Elt F) (Rect.unit (s := S2048x2048) ![128 * s.val, 0] S128x2048.size (inbRows _ s.isLt)).toLoadRect (wbv m ρ c)
/-- One accumulation. -/
def accum (c : Dev nD) (a : S128x2048.Idx → Elt F .f32) (s : Dev nD) : S128x2048.Idx → Elt F .f32 := k0_pay4 a (blockV m ρ c s) (wRows m ρ c s)

theorem slot_access (s : Dev nD) :
    gM.view.setOn (Rect.unit (s := S16x128x128) ![s.val, 0, 0] S1x128x128.size (inbSlot _ s.isLt)).toLoadRect.set ⊆ slotSet s := by
  intro i hi
  obtain ⟨j, hj, rfl⟩ := Finset.mem_map.mp hi
  obtain ⟨h1, h2⟩ := Rect.mem_set_unit.mp hj 0
  replace h1 : s.val ≤ (j 0).val := h1
  replace h2 : (j 0).val < s.val + 1 := h2
  exact (mem_slot s _).mpr (Nat.le_antisymm (Nat.le_of_lt_succ h2) h1)

/-- One turn of the accumulation: device `s`'s block waited for, its product added. -/
theorem wp_accP (c s : Dev nD) (a : S128x2048.Idx → Elt F .f32) (Q : PUnit → sProp 𝕄) :
    iprop(records m ρ K ∗ idle c ∗ pts c cc0_stg2_0 a ∗ pts c cc0_scratch1 (wbv m ρ c) ∗ pend c s
        ∗ ((idle c ∗ pts c cc0_stg2_0 (accum m ρ c a s) ∗ pts c cc0_scratch1 (wbv m ρ c) ∗ got m ρ c s) -∗ Q ⟨⟩))
      ⊢ wpB c (accP c s) Q := by
  unfold accP wpB
  rw [wp_bind, show (fun a : PUnit => _) = (fun _ => wpB c (waitPeerP c s) _) from funext fun _ => wp_bind ..]
  iintro ⟨#HR, Hi, Ho, Hw, Hp, Hk⟩
  iapply (wp_waits m ρ K c s)
  isplitr; · iexact HR
  isplitl [Hi]; · iexact Hi
  isplitl [Hp]; · iexact Hp
  unfold got
  iintro ⟨Hi, Hslot, Hpast⟩
  simp only [Prog.lift, Prog.bind_op, Prog.bind_ret]
  unfold slotPts
  iapply (wp_load 𝒱₀ (c : Thread nD τ) none Set.univ (m := oM) (Finset.subset_univ _)) $$ Ho; iintro Ho
  iapply (wp_load 𝒱₀ (c : Thread nD τ) none Set.univ (m := gM) (slot_access s)) $$ Hslot; iintro Hslot
  iapply (wp_load 𝒱₀ (c : Thread nD τ) none Set.univ (m := wbM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [wp_ret]; imodintro
  iapply Hk
  rw [write_o, read_o]
  isplitl [Hi]; · iexact Hi
  isplitl [Ho]; · unfold accum blockV wRows; iexact Ho
  isplitl [Hw]; · iexact Hw
  isplitl [Hslot] <;> iassumption

end Cert.AllToAll

end
-- ==== Proof.Body.lean ====
/-
The body: its loops by the steps' lemmas, the cells closed at the end, and the pipeline's obligation on it.
-/
module

public import proofs.«01_k».proof.Proof.Steps

@[expose] public section

set_option maxRecDepth 65536

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Lists of assertions -/

/-- Two lists of assertions joined member by member; -/
theorem bigSepL_zip {α : Type} (A B : α → sProp 𝕄) (l : List α) :
    iprop(bigSepL l A ∗ bigSepL l B) ⊢ bigSepL l fun i => iprop(A i ∗ B i) := by
  induction l with
  | nil => rw [bigSepL_nil, bigSepL_nil, bigSepL_nil]; iintro -; iempintro
  | cons a l ih =>
    rw [bigSepL_cons', bigSepL_cons', bigSepL_cons']
    iintro ⟨⟨Ha, HA⟩, Hb, HB⟩
    isplitl [Ha Hb]
    · isplitl [Ha] <;> iassumption
    iapply ih
    isplitl [HA] <;> iassumption
/-- and taken apart. -/
theorem bigSepL_unzip {α : Type} (A B : α → sProp 𝕄) (l : List α) :
    (bigSepL l fun i => iprop(A i ∗ B i)) ⊢ iprop(bigSepL l A ∗ bigSepL l B) := by
  induction l with
  | nil => rw [bigSepL_nil, bigSepL_nil, bigSepL_nil]; iintro -; isplitr <;> iempintro
  | cons a l ih =>
    rw [bigSepL_cons', bigSepL_cons', bigSepL_cons']
    iintro ⟨⟨Ha, Hb⟩, H⟩
    ihave H' := ih $$ H
    icases H' with ⟨HA, HB⟩
    isplitl [Ha HA]
    · isplitl [Ha] <;> iassumption
    · isplitl [Hb] <;> iassumption

variable (m : (ℓ : Loc nD τ sig) → Buf (Elt F) ℓ) (ρ : Dev nD → PrngReg)
variable (K : Dev nD × Fin 34 → ℕ)

/-! ## The loops -/

/-- All the signals: every peer's slot handed over. -/
theorem wp_signals (c : Dev nD) (W : Waits sig Unit) (Q : PUnit → sProp 𝕄) :
    iprop(records m ρ K ∗ owes (c : Thread nD τ) (O₀ c) W
        ∗ (bigSepL l15 fun r => dutyTok ER (barCell (peer c r)) 0 c) ∗ (bigSepL l15 fun r => iprop(∃ f, slotPts c (peer c r) f))
        ∗ (owes (c : Thread nD τ) (owesL (debtRecv c) l15) W -∗ Q ⟨⟩))
      ⊢ wpB c (each (signalP c) l15) Q := by
  have h := wp_each (F := F) (c := c) (P := signalP c)
    (J := fun l => iprop(records m ρ K ∗ owes (c : Thread nD τ) (owesL (debtRecv c) l15 + owesL (debtBar c) l) W))
    (Pre := fun r => iprop(dutyTok ER (barCell (peer c r)) 0 c ∗ ∃ f, slotPts c (peer c r) f)) (Post := fun _ => iprop(emp))
    (fun r l Q => by
      iintro ⟨⟨#HR, HO⟩, ⟨Ht, Hs⟩, Hk⟩
      iapply (wp_signalP m ρ K c r (owesL (debtRecv c) l15 + owesL (debtBar c) l) W)
      isplitr; · iexact HR
      isplitl [HO]
      · rw [add_assoc]; iexact HO
      isplitl [Ht]; · iexact Ht
      isplitl [Hs]; · iexact Hs
      iintro HO
      iapply Hk
      isplitl [HO]
      · isplitr; · iexact HR
        iexact HO
      iempintro) l15 Q
  iintro ⟨HR, HO, Ht, Hs, Hk⟩
  iapply h
  isplitl [HR HO]
  · isplitl [HR]; · iexact HR
    iexact HO
  isplitl [Ht Hs]
  · iapply (bigSepL_zip (F := F)); isplitl [Ht] <;> iassumption
  iintro ⟨⟨-, HO⟩, -⟩
  iapply Hk
  rw [show owesL (debtBar c) [] = 0 from rfl, add_zero]
  iexact HO

/-- All the sends. -/
theorem wp_sends (c : Dev nD) (W : Waits sig Unit) (Q : PUnit → sProp 𝕄) :
    iprop(records m ρ K ∗ owes (c : Thread nD τ) (owesL (debtRecv c) l15) W
        ∗ (bigSepL l15 fun r => rowPts c (peer c r) (xbv m ρ c)) ∗ (bigSepL l15 fun r => barPay c (peer c r))
        ∗ (bigSepL l15 fun r => dutyTok ER (recvCell (peer c r) c) 0 0) ∗ (bigSepL l15 fun r => dutyTok ER (sendCell c r) 0 0)
        ∗ ((owes (c : Thread nD τ) 0 W ∗ bigSepL l15 fun r => cred (tallyAt (sendCell c r) () N)) -∗ Q ⟨⟩))
      ⊢ wpB c (each (sendP c) l15) Q := by
  have h := wp_each (F := F) (c := c) (P := sendP c)
    (J := fun l => iprop(records m ρ K ∗ owes (c : Thread nD τ) (owesL (debtRecv c) l) W))
    (Pre := fun r => iprop(rowPts c (peer c r) (xbv m ρ c) ∗ barPay c (peer c r) ∗ dutyTok ER (recvCell (peer c r) c) 0 0 ∗ dutyTok ER (sendCell c r) 0 0))
    (Post := fun r => cred (tallyAt (sendCell c r) () N))
    (fun r l Q => by
      iintro ⟨⟨#HR, HO⟩, ⟨Hrow, Hbar, HtV, HtS⟩, Hk⟩
      iapply (wp_sendP m ρ K c r (owesL (debtRecv c) l) W)
      isplitr; · iexact HR
      isplitl [HO]; · iexact HO
      isplitl [Hrow]; · iexact Hrow
      isplitl [Hbar]; · unfold barPay; iexact Hbar
      isplitl [HtV]; · iexact HtV
      isplitl [HtS]; · iexact HtS
      iintro ⟨Hc, HO⟩
      iapply Hk
      isplitl [HO]
      · isplitr; · iexact HR
        iexact HO
      iexact Hc) l15 Q
  iintro ⟨HR, HO, Hrow, Hbar, HtV, HtS, Hk⟩
  iapply h
  isplitl [HR HO]
  · isplitl [HR]; · iexact HR
    iexact HO
  isplitl [Hrow Hbar HtV HtS]
  · iapply (bigSepL_zip (F := F)); isplitl [Hrow]; · iexact Hrow
    iapply (bigSepL_zip (F := F)); isplitl [Hbar]; · iexact Hbar
    iapply (bigSepL_zip (F := F)); isplitl [HtV] <;> iassumption
  iintro ⟨⟨-, HO⟩, Hc⟩
  iapply Hk
  isplitl [HO]; · iexact HO
  iexact Hc

/-- The kernel's result on device `c`: the sixteen products added one after the other, from zero. -/
def outAt (c : Dev nD) : S128x2048.Idx → Elt F .f32 := l16.foldl (accum m ρ c) (k0_pay3 (F := F))

/-- The accumulation over all the devices' blocks. -/
theorem wp_accs (c : Dev nD) (Q : PUnit → sProp 𝕄) :
    iprop(records m ρ K ∗ idle c ∗ pts c cc0_stg2_0 (k0_pay3 (F := F)) ∗ pts c cc0_scratch1 (wbv m ρ c) ∗ (bigSepL l16 fun s => pend c s)
        ∗ ((idle c ∗ pts c cc0_stg2_0 (outAt m ρ c) ∗ pts c cc0_scratch1 (wbv m ρ c) ∗ bigSepL l16 fun s => got m ρ c s) -∗ Q ⟨⟩))
      ⊢ wpB c (each (accP c) l16) Q := by
  have h := wp_each (F := F) (c := c) (P := accP c)
    (J := fun l => iprop(records m ρ K ∗ idle c ∗ (∃ a, ⌜l.foldl (accum m ρ c) a = outAt m ρ c⌝ ∗ pts c cc0_stg2_0 a) ∗ pts c cc0_scratch1 (wbv m ρ c)))
    (Pre := fun s => pend c s) (Post := fun s => got m ρ c s)
    (fun s l Q => by
      iintro ⟨⟨#HR, Hi, ⟨%a, %ha, Ho⟩, Hw⟩, Hp, Hk⟩
      iapply (wp_accP m ρ K c s a)
      isplitr; · iexact HR
      isplitl [Hi]; · iexact Hi
      isplitl [Ho]; · iexact Ho
      isplitl [Hw]; · iexact Hw
      isplitl [Hp]; · iexact Hp
      iintro ⟨Hi, Ho, Hw, Hg⟩
      iapply Hk
      isplitr [Hg]
      · isplitr; · iexact HR
        isplitl [Hi]; · iexact Hi
        isplitl [Ho]
        · iexists _; isplitr; · (ipureintro; exact ha)
          iexact Ho
        iexact Hw
      iexact Hg) l16 Q
  iintro ⟨HR, Hi, Ho, Hw, Hp, Hk⟩
  iapply h
  isplitl [HR Hi Ho Hw]
  · isplitl [HR]; · iexact HR
    isplitl [Hi]; · iexact Hi
    isplitl [Ho]
    · iexists _; isplitr; · (ipureintro; rfl)
      iexact Ho
    iexact Hw
  isplitl [Hp]; · iexact Hp
  iintro ⟨⟨-, Hi, ⟨%a, %ha, Ho⟩, Hw⟩, Hg⟩
  iapply Hk
  isplitl [Hi]; · iexact Hi
  isplitl [Ho]
  · rw [← ha]; iexact Ho
  isplitl [Hw]; · iexact Hw
  iexact Hg

/-- The waits for all the sends. -/
theorem wp_sents (c : Dev nD) (Q : PUnit → sProp 𝕄) :
    iprop(records m ρ K ∗ idle c ∗ (bigSepL l15 fun r => cred (tallyAt (sendCell c r) () N)) ∗ (bigSepL l15 fun r => atPos ER (sendCell c r) 0 ∅ 0)
        ∗ ((idle c ∗ (bigSepL l15 fun r => rowPts c (peer c r) (xbv m ρ c)) ∗ bigSepL l15 fun r => atPos ER (sendCell c r) 1 ∅ 0) -∗ Q ⟨⟩))
      ⊢ wpB c (each (sentP c) l15) Q := by
  have h := wp_each (F := F) (c := c) (P := sentP c)
    (J := fun l => iprop(records m ρ K ∗ idle c))
    (Pre := fun r => iprop(cred (tallyAt (sendCell c r) () N) ∗ atPos ER (sendCell c r) 0 ∅ 0))
    (Post := fun r => iprop(rowPts c (peer c r) (xbv m ρ c) ∗ atPos ER (sendCell c r) 1 ∅ 0))
    (fun r l Q => by
      iintro ⟨⟨#HR, Hi⟩, Hp, Hk⟩
      iapply (wp_sentP m ρ K c r)
      isplitr; · iexact HR
      isplitl [Hi]; · iexact Hi
      isplitl [Hp]; · iexact Hp
      iintro ⟨Hi, Hg⟩
      iapply Hk
      isplitl [Hi]
      · isplitr; · iexact HR
        iexact Hi
      iexact Hg) l15 Q
  iintro ⟨HR, Hi, Hc, Hat, Hk⟩
  iapply h
  isplitl [HR Hi]
  · isplitl [HR]; · iexact HR
    iexact Hi
  isplitl [Hc Hat]
  · iapply (bigSepL_zip (F := F)); isplitl [Hc] <;> iassumption
  iintro ⟨⟨-, Hi⟩, Hg⟩
  iapply Hk
  isplitl [Hi]; · iexact Hi
  iapply (bigSepL_unzip (F := F)); iexact Hg

/-! ## The cells at the end -/

/-- The round each of a device's cells ends at: 1, but the two cells with no duty stay at 0. -/
def endRound (c : Dev nD) (k : Fin 34) : ℕ := if k = 0 ∨ k = kRecv c then 0 else 1
theorem endRound_bar : ∀ c, endRound c 33 = 1 := by decide +kernel
theorem endRound_loc : ∀ c, endRound c 32 = 1 := by decide +kernel
theorem endRound_zero : ∀ c, endRound c 0 = 0 := by decide +kernel
theorem endRound_send : ∀ c r, endRound c (kSend r) = 1 := by decide +kernel
theorem endRound_self : ∀ c, endRound c (kRecv c) = 0 := by decide +kernel
theorem endRound_recv : ∀ c r, endRound c (kRecv (peer c r)) = 1 := by decide +kernel

theorem ended (c : Dev nD) (k : Fin 34) : ∀ r, endRound c k ≤ r → (sched (F := F) m ρ).duties (kcell (c, k)) r = ∅ := by
  intro r hr
  by_cases h1 : 1 ≤ r
  · exact duties_later m ρ _ r h1
  · have hr0 : r = 0 := by omega
    subst hr0
    unfold endRound at hr
    by_cases hk : k = 0 ∨ k = kRecv c
    · rcases hk with rfl | rfl
      · exact duties_zero m ρ c
      · rw [kcell_recv]; exact duties_recv_self m ρ c
    · rw [if_neg hk] at hr; omega

/-- The counter of every cell of the exchange on device `c`, at zero. -/
def zeros (c : Dev nD) : sProp 𝕄 := bigSep Finset.univ fun k : Fin 34 => semVal (kcell (c, k)) 0

theorem pair_swap {I : Type} [Fintype I] [DecidableEq I] (A B : I → sProp 𝕄) :
    iprop(bigSep Finset.univ A ∗ bigSep Finset.univ B) ⊢ bigSep Finset.univ fun i => iprop(A i ∗ B i) :=
  Entails.of_eq (bigSep_sep' _ _ _).symm

/-- The cells of device `c` close. -/
theorem close_cells (c : Dev nD) :
    iprop(records m ρ K ∗ bigSep Finset.univ fun k : Fin 34 => atPos ER (kcell (c, k)) (endRound c k) ∅ 0) ⊢ (|={Set.univ}=> zeros c : sProp 𝕄) := by
  have h : records m ρ K ⊢ (bigSep Finset.univ fun k : Fin 34 => cellInv ER (sched m ρ) (K (c, k)) (kcell (c, k)) : sProp 𝕄) :=
    bigSep_intro_persistent fun k _ => inv_at m ρ K (c, k)
  have h2 : iprop(records m ρ K ∗ bigSep Finset.univ fun k : Fin 34 => atPos ER (kcell (c, k)) (endRound c k) ∅ 0)
      ⊢ (bigSep Finset.univ fun k : Fin 34 => iprop(cellInv ER (sched m ρ) (K (c, k)) (kcell (c, k)) ∗ atPos ER (kcell (c, k)) (endRound c k) ∅ 0) : sProp 𝕄) :=
    (sep_mono_left h).trans (pair_swap _ _)
  exact h2.trans (Rounds.cells_close ER (sched m ρ) Finset.univ (fun k : Fin 34 => kcell (c, k)) (fun k => K (c, k))
    (fun k _ => Set.mem_univ _) (fun k _ h => h) (endRound c) (fun k _ => ended m ρ c k))

/-- The positions the body leaves are those the cells close at. -/
theorem positions_end (c : Dev nD) :
    iprop(atPos ER (barCell c) 1 ∅ 0 ∗ (bigSepL l15 fun r => atPos ER (sendCell c r) 1 ∅ 0)
        ∗ (atPos ER (recvCell c c) 0 ∅ 0 ∗ bigSepL l15 fun r => atPos ER (recvCell c (peer c r)) 1 ∅ 0)
        ∗ atPos ER (locCell c) 1 ∅ 0 ∗ atPos ER (kcell (c, 0)) 0 ∅ 0)
      ⊢ (bigSep Finset.univ fun k : Fin 34 => atPos ER (kcell (c, k)) (endRound c k) ∅ 0 : sProp 𝕄) := by
  rw [positions_eq c, bigSep_self_peers c]
  simp only [endRound_bar, endRound_loc, endRound_zero, endRound_send, endRound_self, endRound_recv, kcell_send, kcell_recv, kcell_loc, kcell_bar]
  exact BI.Entails.refl _

/-- The positions a device starts with. -/
theorem positions_start (c : Dev nD) :
    (positions c : sProp 𝕄) ⊢ iprop(atPos ER (barCell c) 0 ∅ 0 ∗ (bigSepL l15 fun r => atPos ER (sendCell c r) 0 ∅ 0)
        ∗ (atPos ER (recvCell c c) 0 ∅ 0 ∗ bigSepL l15 fun r => atPos ER (recvCell c (peer c r)) 0 ∅ 0)
        ∗ atPos ER (locCell c) 0 ∅ 0 ∗ atPos ER (kcell (c, 0)) 0 ∅ 0) := by
  unfold positions
  rw [positions_eq c, bigSep_self_peers c]
  simp only [kcell_send, kcell_recv, kcell_loc, kcell_bar]
  exact BI.Entails.refl _

/-- What the accumulation's waits need. -/
theorem pends_intro (c : Dev nD) :
    iprop((cred (tallyAt (locCell c) () N) ∗ atPos ER (locCell c) 0 ∅ 0)
        ∗ (bigSep (Finset.univ.erase c) fun s => cred (tallyAt (recvCell c s) () N)) ∗ (bigSepL l15 fun r => atPos ER (recvCell c (peer c r)) 0 ∅ 0))
      ⊢ (bigSepL l16 fun s => pend c s : sProp 𝕄) := by
  rw [← bigSep_all, bigSep_self_peers c, bigSep_peers]
  simp only [pend, if_neg (peer_ne c _), if_true]
  exact sep_mono_right (bigSepL_zip _ _ _)

/-- What they leave: the gather buffer filled, the own row block, the positions. -/
theorem gots_elim (c : Dev nD) :
    (bigSepL l16 fun s => got m ρ c s : sProp 𝕄)
      ⊢ iprop(pts c cc0_scratch2 (gat m ρ c) ∗ (rowPts c c (xbv m ρ c) ∗ atPos ER (locCell c) 1 ∅ 0) ∗ bigSepL l15 fun r => atPos ER (recvCell c (peer c r)) 1 ∅ 0) := by
  unfold got
  refine (bigSepL_unzip _ _ _).trans (BIClass.sep_mono ?_ ?_)
  · unfold pts
    rw [slots_split c (gat m ρ c), bigSep_all]
  · rw [← bigSep_all (fun s => past m ρ c s), bigSep_self_peers c]
    simp only [past, if_neg (peer_ne c _), if_true]
    exact BI.Entails.refl _

/-! ## The body -/

/-- The scratch buffers, at any contents. -/
def scratches (c : Dev nD) : sProp 𝕄 :=
  iprop((∃ f, pts c cc0_scratch0 f) ∗ (∃ f, pts c cc0_scratch1 f) ∗ (∃ f, pts c cc0_scratch2 f))

/-- A memory's slots but the own, each at some contents. -/
theorem slots_out (c : Dev nD) (f : S16x128x128.Idx → Elt F .bf16) :
    pts c cc0_scratch2 f ⊢ (iprop((∃ f, slotPts c c f) ∗ bigSepL l15 fun r => iprop(∃ f, slotPts c (peer c r) f)) : sProp 𝕄) := by
  unfold pts
  rw [slots_split c f, bigSep_self_peers c]
  refine BIClass.sep_mono ?_ (bigSepL_mono fun r _ => ?_)
  · iintro H; iexists f; iexact H
  · iintro H; iexists f; iexact H

theorem rows_out (c : Dev nD) (f : S2048x128.Idx → Elt F .bf16) :
    (pts c cc0_scratch0 f : sProp 𝕄) = iprop(rowPts c c f ∗ bigSepL l15 fun r => rowPts c (peer c r) f) := by
  unfold pts
  rw [rows_split c f, bigSep_self_peers c]

set_option maxHeartbeats 1000000 in
/-- The body on device `c`, from the exchange's state and the buffers, to the result and the cells closed. -/
theorem wp_bodyL (c : Dev nD) (W : Waits sig Unit) (g : S128x2048.Idx → Elt F .f32) (Q : PUnit → sProp 𝕄) :
    iprop(ghost m ρ K c ∗ credits c ∗ levAts L lv ∗ scratches c ∗ owes (c : Thread nD τ) (O₀ c) W
        ∗ pts c cc0_stg0_0 (xstg m ρ c) ∗ pts c cc0_stg1_0 (wstg m ρ c) ∗ pts c cc0_stg2_0 g
        ∗ ((scratches c ∗ zeros c ∗ idle c ∗ pts c cc0_stg0_0 (xstg m ρ c) ∗ pts c cc0_stg1_0 (wstg m ρ c) ∗ pts c cc0_stg2_0 (outAt m ρ c)) -∗ Q ⟨⟩))
      ⊢ wpB c bodyL Q := by
  unfold bodyL wpB
  simp only [Prog.lift, Prog.bind_op, Prog.bind_ret, wp_deviceId]
  unfold ghost credits scratches payToks
  iintro ⟨⟨#HR, Hpos, HtB, HtV, HtS, HtL⟩, ⟨HcB, HcV⟩, #Hlev, ⟨⟨%f0, Hxb⟩, ⟨%f1, Hwb⟩, ⟨%f2, Hg⟩⟩, HO, Hx, Hw, Ho, Hk⟩
  ihave Hpos' := (positions_start (F := F) c) $$ Hpos
  icases Hpos' with ⟨HpB, HpS, ⟨HpVc, HpV⟩, HpL, Hp0⟩
  rw [wp_bind]
  iapply (wp_copyX m ρ c _ f0)
  isplitl [Hx]; · iexact Hx
  isplitl [Hxb]; · iexact Hxb
  iintro ⟨Hx, Hxb⟩
  rw [wp_bind]
  ihave Hg' := (slots_out c f2) $$ Hg
  icases Hg' with ⟨Hgc, Hgs⟩
  iapply (wp_signals m ρ K c W)
  isplitr; · iexact HR
  isplitl [HO]; · iexact HO
  isplitl [HtB]; · iexact HtB
  isplitl [Hgs]; · iexact Hgs
  iintro HO
  rw [wp_bind]
  iapply (wp_barWait m ρ K c W)
  isplitr; · iexact HR
  isplitr; · iexact Hlev
  isplitl [HcB]; · iexact HcB
  isplitl [HO]; · iexact HO
  isplitl [HpB]; · iexact HpB
  iintro ⟨HO, HpB, Hbar⟩
  rw [wp_bind]
  ihave Hxb' := (Entails.of_eq (rows_out c (xbv m ρ c))) $$ Hxb
  icases Hxb' with ⟨Hrow, Hrows⟩
  iapply (wp_sends m ρ K c _)
  isplitr; · iexact HR
  isplitl [HO]; · iexact HO
  isplitl [Hrows]; · iexact Hrows
  isplitl [Hbar]; · iexact Hbar
  isplitl [HtV]; · iexact HtV
  isplitl [HtS]; · iexact HtS
  iintro ⟨HO, HcS⟩
  rw [wp_bind]
  iapply (wp_localP m ρ K c)
  isplitr; · iexact HR
  isplitl [Hrow]; · iexact Hrow
  isplitl [Hgc]; · iexact Hgc
  isplitl [HtL]; · iexact HtL
  iintro HcL
  rw [wp_bind]
  iapply (wp_copyW m ρ c _ f1 g)
  isplitl [Hw]; · iexact Hw
  isplitl [Hwb]; · iexact Hwb
  isplitl [Ho]; · iexact Ho
  iintro ⟨Hw, Hwb, Ho⟩
  rw [wp_bind]
  iapply (wp_accs m ρ K c)
  isplitr; · iexact HR
  isplitl [HO]
  · unfold idle; iexists _; iexact HO
  isplitl [Ho]; · iexact Ho
  isplitl [Hwb]; · iexact Hwb
  isplitl [HcL HpL HcV HpV]
  · iapply (pends_intro (F := F) c)
    isplitl [HcL HpL]
    · isplitl [HcL] <;> iassumption
    isplitl [HcV] <;> iassumption
  iintro ⟨Hi, Ho, Hwb, Hgot⟩
  ihave Hgot' := (gots_elim m ρ c) $$ Hgot
  icases Hgot' with ⟨Hg, ⟨Hrow, HpL⟩, HpV⟩
  iapply (wp_fupd frame _ Set.univ)
  iapply (wp_sents m ρ K c)
  isplitr; · iexact HR
  isplitl [Hi]; · iexact Hi
  isplitl [HcS]; · iexact HcS
  isplitl [HpS]; · iexact HpS
  iintro ⟨Hi, Hrows, HpS⟩
  imod (close_cells m ρ K c) $$ [HpB HpS HpVc HpV HpL Hp0] with Hz
  · isplitr; · iexact HR
    iapply (positions_end (F := F) c)
    isplitl [HpB]; · iexact HpB
    isplitl [HpS]; · iexact HpS
    isplitl [HpVc HpV]
    · isplitl [HpVc] <;> iassumption
    isplitl [HpL] <;> iassumption
  imodintro
  iapply Hk
  isplitl [Hrow Hrows Hwb Hg]
  · isplitl [Hrow Hrows]
    · iexists (xbv m ρ c); rw [rows_out]
      isplitl [Hrow] <;> iassumption
    isplitl [Hwb]
    · iexists _; iexact Hwb
    iexists _; iexact Hg
  isplitl [Hz]; · iexact Hz
  isplitl [Hi]; · iexact Hi
  isplitl [Hx]; · iexact Hx
  isplitl [Hw] <;> iassumption

end Cert.AllToAll

end
-- ==== Proof.Run.lean ====
/-
The launch: what the devices owe and are credited, the cells' invariants made, and the run of the program.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

set_option maxRecDepth 65536

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c`'s body starts from: the exchange's state, the credits and the level facts. -/
def start (c : Dev nD) : sProp 𝕄 := iprop((∃ K, ghost m ρ K c) ∗ credits c ∗ levAts L lv)

/-- Windows 0 and 1 are the inputs, unchanged; window 2 the result. Before the one point, the start and the scratch
    buffers; after it the scratch buffers and every cell closed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => iprop(start m ρ c ∗ scratches c)
    | ⟨_ + 1, _⟩ => iprop(scratches c ∗ zeros c)
  q _ := fullShare
  owed t := match t with
    | ⟨0, _⟩ => O₀ c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pts c b f) := by
  unfold owns pts; simp only [Memref.view_whole, View.read_whole, View.set_whole]

/-- A staging buffer at contents `X`. -/
abbrev held (c : Dev nD) (b : Ref sig .tc) (X : b.ty.Contents (Elt F)) : sProp 𝕄 :=
  iprop(∃ f : Buf (Elt F) (((c : Dev nD) : Thread nD τ).loc b), ⌜f = X⌝ ∗ pts c b f)

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

def bodyPre (c : Dev nD) : sProp 𝕄 :=
  iprop((start m ρ c ∗ scratches c)
    ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
def bodyPost (c : Dev nD) : sProp 𝕄 :=
  iprop((scratches c ∗ zeros c) ∗ (dats m ρ 0 c).owesAt () t0_0.succ
    ∗ held c cc0_stg0_0 (xstg m ρ c) ∗ held c cc0_stg1_0 (wstg m ρ c) ∗ held c cc0_stg2_0 (outAt m ρ c))

/-- The body between them. -/
theorem body_run (c : Dev nD) : bodyPre m ρ c ⊢ wpB c (bodyL (F := F)) (fun _ => bodyPost m ρ c) := by
  unfold bodyPre start
  simp only [before_x, before_w]
  iintro ⟨⟨⟨⟨%K, Hg⟩, Hcr, Hlev⟩, Hs⟩, Ho, ⟨%d0, %g0, %h0, Hx⟩, ⟨%d1, %g1, %h1, Hw⟩, ⟨%d2, %g2, %h2, Hout⟩⟩
  subst h0 h1
  unfold Dat.owesAt Pipeline.owesWithin
  icases Ho with ⟨%W, %hW, HO⟩
  rw [show (dats m ρ 0 c).owed t0_0.castSucc = O₀ c from rfl]
  iapply (wp_bodyL m ρ K c W g2)
  isplitl [Hg]; · iexact Hg
  isplitl [Hcr]; · iexact Hcr
  isplitl [Hlev]; · iexact Hlev
  isplitl [Hs]; · iexact Hs
  isplitl [HO]; · iexact HO
  isplitl [Hx]; · iexact Hx
  isplitl [Hw]; · iexact Hw
  isplitl [Hout]; · iexact Hout
  iintro ⟨Hs, Hz, Hi, Hx, Hw, Hout⟩
  unfold bodyPost Dat.owesAt Pipeline.owesWithin idle
  rw [show (dats m ρ 0 c).owed t0_0.succ = 0 from rfl]
  icases Hi with ⟨%W', HO⟩
  isplitl [Hs Hz]
  · isplitl [Hs] <;> iassumption
  isplitl [HO]
  · iexists W'
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The pipeline's obligation on device `c`'s body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_buf]
  show bodyPre m ρ c ⊢ wpB c (cc0_body (F := F) xM (Memref.isWhole_whole _) wM (Memref.isWhole_whole _) oM (Memref.isWhole_whole _) xbM (Memref.isWhole_whole _)
    wbM (Memref.isWhole_whole _) gM (Memref.isWhole_whole _) cc0_scratch3 cc0_scratch4 cc0_scratch5) (fun _ => bodyPost m ρ c)
  rw [body_eq]
  exact body_run m ρ c

/-! ## The launch element -/

theorem ownSemFacts : Pipeline.OwnSemFacts cfg0.spec osem := by decide +kernel

theorem share_eq (c : Dev nD) (w : Fin cfg0.W) : (dats m ρ 0 c).share w = fullShare := by unfold Dat.share; split <;> rfl

/-- All the cells of the exchange. -/
def ringCells : Finset (GSem nD τ sig) := Finset.univ.map ⟨kcell, kcell_injective⟩

/-- The tokens of device `c`, by number: barrier duties of every device's cell, receive duties, and duties of its own send and local cells. -/
def tokKey : Dev nD × Fin 16 × Fin 3 → (Dev nD × Fin 34) × Dev nD
  | (c, s, 0) => ((s, 33), c)
  | (c, s, 1) => ((s, kRecv c), 0)
  | (c, s, 2) => ((c, if s = 0 then 32 else ⟨s.val, by omega⟩), 0)
/-- The number a token came from. -/
def tokNum (x : (Dev nD × Fin 34) × Dev nD) : Dev nD × Fin 16 × Fin 3 :=
  if x.1.2.val = 33 then (x.2, x.1.1, 0)
  else if x.1.2.val = 32 then (x.1.1, 0, 2)
  else if h : 16 ≤ x.1.2.val then (⟨(x.1.2.val - 16) % 16, Nat.mod_lt _ (by decide)⟩, x.1.1, 1)
  else (x.1.1, ⟨x.1.2.val, by omega⟩, 2)
theorem tokNum_tokKey : ∀ x, tokNum (tokKey x) = x := by decide +kernel
def tokOf (x : Dev nD × Fin 16 × Fin 3) : GSem nD τ sig × ℕ × Dev nD := (kcell (tokKey x).1, 0, (tokKey x).2)
theorem tokOf_injective : Function.Injective tokOf := fun x y h => by
  have h1 : (tokKey x).1 = (tokKey y).1 := kcell_injective (congrArg Prod.fst h)
  have h2 : (tokKey x).2 = (tokKey y).2 := congrArg (fun z : GSem nD τ sig × ℕ × Dev nD => z.2.2) h
  rw [← tokNum_tokKey x, ← tokNum_tokKey y, Prod.ext h1 h2]
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The tokens minted for device `c` hold those it pays with. -/
theorem toks_pay (c : Dev nD) :
    (bigSep Finset.univ fun sj : Fin 16 × Fin 3 => (dutyTok ER (tokOf (c, sj)).1 (tokOf (c, sj)).2.1 (tokOf (c, sj)).2.2 : sProp 𝕄)) ⊢ payToks c := by
  rw [bigSep_univ_prod (fun sj : Fin 16 × Fin 3 => (dutyTok ER (tokOf (c, sj)).1 (tokOf (c, sj)).2.1 (tokOf (c, sj)).2.2 : sProp 𝕄))]
  rw [bigSep_congr (s := Finset.univ) (Ψ := fun s : Fin 16 => iprop(dutyTok ER (kcell (s, 33)) 0 c ∗ dutyTok ER (kcell (s, kRecv c)) 0 0
      ∗ dutyTok ER (kcell (c, if s = 0 then 32 else ⟨s.val, by omega⟩)) 0 0))
    (fun s _ => by rw [bigSep_univ_eq_bigSepL (I := Fin 3) [0, 1, 2] (by decide) (by decide)]; rfl), bigSep_sep', bigSep_sep']
  have h1 : (bigSep Finset.univ fun s : Fin 16 => (dutyTok ER (kcell (s, 33)) 0 c : sProp 𝕄)) ⊢ bigSepL l15 fun r => dutyTok ER (barCell (peer c r)) 0 c := by
    rw [bigSep_self_peers c]; simp only [kcell_bar]; iintro ⟨-, H⟩; iexact H
  have h2 : (bigSep Finset.univ fun s : Fin 16 => (dutyTok ER (kcell (s, kRecv c)) 0 0 : sProp 𝕄)) ⊢ bigSepL l15 fun r => dutyTok ER (recvCell (peer c r) c) 0 0 := by
    rw [bigSep_self_peers c]; simp only [kcell_recv]; iintro ⟨-, H⟩; iexact H
  have h3 : (bigSep Finset.univ fun s : Fin 16 => (dutyTok ER (kcell (c, if s = 0 then 32 else ⟨s.val, by omega⟩)) 0 0 : sProp 𝕄))
      ⊢ iprop((bigSepL l15 fun r => dutyTok ER (sendCell c r) 0 0) ∗ dutyTok ER (locCell c) 0 0) := by
    rw [bigSep_univ_eq_bigSepL (I := Fin 16) (0 :: l15.map Fin.succ) (by decide +kernel) (by decide +kernel), bigSepL_cons', bigSepL_map]
    have hs : ∀ r : Fin 15, (if r.succ = 0 then (32 : Fin 34) else ⟨r.succ.val, by omega⟩) = kSend r := by decide +kernel
    simp only [hs, kcell_send, if_true, kcell_loc]
    iintro ⟨H1, H2⟩
    isplitl [H2] <;> iassumption
  unfold payToks
  iintro ⟨H1, H2, H3⟩
  isplitl [H1]; · iapply h1; iexact H1
  isplitl [H2]; · iapply h2; iexact H2
  iapply h3; iexact H3

/-- What the launch element deals device `c`: its cells' round states, its positions, and its tokens. -/
def G (c : Dev nD) : sProp 𝕄 :=
  iprop((bigSep Finset.univ fun k : Fin 34 => roundState ER (sched m ρ) (kcell (c, k)) 0)
    ∗ (bigSep Finset.univ fun k : Fin 34 => iprop(atPos ER (kcell (c, k)) 0 ∅ 0 ∗ reached ER (kcell (c, k)) 0)) ∗ payToks c)
/-- What it becomes when the invariants are made. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 34 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => payToks c := by
    unfold ringToks; rw [bigSep_map, bigSep_univ_prod]
    exact bigSep_mono fun c _ => toks_pay c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- A device's cells' counters are its own semaphores' and the barrier's. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  have hu : (unscopedSems0 c : sProp 𝕄) = semVal (barCell c) 0 := by
    unfold unscopedSems0; rw [bigSep_eq_bigSepL_of_eq [SemLoc.reg barS] (by decide +kernel) (by decide +kernel)]; rfl
  have hc : ∀ k : Fin 33, csem (Fin.castSucc k) = osem k := by decide +kernel
  rw [hu, Pipeline.ownSems0_eq_of_list c osem (List.finRange 33) (by decide +kernel) (by decide +kernel)]
  unfold zeros
  rw [bigSep_univ_eq_bigSepL (33 :: (List.finRange 33).map Fin.castSucc) (by decide +kernel) (by decide +kernel), bigSepL_cons', bigSepL_map, kcell_bar]
  unfold kcell
  simp only [hc]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 34 => iprop(∃ κ : ℕ, cellInv ER (sched m ρ) κ (kcell (c, k))))
          ∗ (bigSep Finset.univ fun k : Fin 34 => iprop(atPos ER (kcell (c, k)) 0 ∅ 0 ∗ reached ER (kcell (c, k)) 0)) ∗ payToks c) := by
  have hz : iprop(unscopedSems0 c ∗ Pipeline.ownSems0 (Ix := Unit) (Name := ℕ) (U := UU) (Lvl := ℕ) (Val := Elt F) (τ := τ) osem c) ⊢ (zeros c : sProp 𝕄) :=
    Entails.of_eq (zeros_eq c).symm
  unfold G
  iintro ⟨Hos, Hus, Hst, Hat, Htok⟩
  ihave Hv := hz $$ [Hos Hus]
  · isplitl [Hus] <;> iassumption
  unfold zeros
  imod (show iprop((bigSep Finset.univ fun k : Fin 34 => semVal (kcell (c, k)) 0) ∗ bigSep Finset.univ fun k : Fin 34 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A persistent fact shared among a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 34 → ℕ) (c : Dev nD) : iprop(records m ρ K ∗ (positions c ∗ payToks c)) ⊢ G' m ρ c := by
  unfold G' ghost
  iintro H
  iexists K; iexact H

theorem regroup :
    (bigSep Finset.univ fun c : Dev nD => iprop((bigSep Finset.univ fun k : Fin 34 => iprop(∃ κ : ℕ, cellInv ER (sched m ρ) κ (kcell (c, k))))
          ∗ (bigSep Finset.univ fun k : Fin 34 => iprop(atPos ER (kcell (c, k)) 0 ∅ 0 ∗ reached ER (kcell (c, k)) 0)) ∗ payToks c) : sProp 𝕄)
      ⊢ bigSep Finset.univ (G' m ρ) := by
  rw [bigSep_sep', bigSep_sep', ← bigSep_univ_prod (fun ck : Dev nD × Fin 34 => iprop(∃ κ : ℕ, cellInv ER (sched m ρ) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (sched m ρ) κ (kcell ck) : sProp 𝕄))) $$ HI
  icases HK with ⟨%K, #HI⟩
  iapply (bigSep_share (R := records m ρ K) fun c _ => ghost_intro m ρ K c)
  isplitr
  · unfold records; isplitl; · iexact HI
    iexact HR
  · iapply (pair_swap (F := F))
    isplitl [Hat]
    · unfold positions; iexact Hat
    iexact Htok

/-- All the invariants made at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_eq {c d : Dev nD} {k l : Fin 34} : Iff (kcell (c, k) = kcell (d, l)) (c = d ∧ k = l) :=
  ⟨fun h => by have := kcell_injective h; exact ⟨congrArg Prod.fst this, congrArg Prod.snd this⟩, fun h => by rw [h.1, h.2]⟩

/-- A tally at a cell, at another cell. -/
theorem tally_at (c d : Dev nD) (k l : Fin 34) (n : ℕ) :
    (tallyAt (kcell (d, l)) () n : CellTallies nD τ sig Unit) (kcell (c, k)) () = (if c = d ∧ k = l then 1 else 0) * n := by
  rw [tallyAt_apply]
  by_cases h : c = d ∧ k = l
  · rw [if_pos ⟨cell_eq.mpr h, rfl⟩, if_pos h, Nat.one_mul]
  · rw [if_neg fun h' => h (cell_eq.mp h'.1), if_neg h, Nat.zero_mul]

/-- What device `d` owes at cell `k` of device `c`. -/
theorem owed_at (d c : Dev nD) (k : Fin 34) : O₀ d (kcell (c, k)) ()
    = (l15.map fun r => if c = peer d r ∧ k = kRecv d then 1 else 0).sum * N + (l15.map fun r => if c = peer d r ∧ k = 33 then 1 else 0).sum * 1 := by
  unfold O₀
  rw [Pi.add_apply, Finsupp.add_apply, owesL_apply, owesL_apply, ← List.sum_map_mul_right, ← List.sum_map_mul_right]
  unfold debtRecv debtBar
  simp only [← kcell_recv, ← kcell_bar, tally_at]

theorem owed_count_bar : ∀ d c : Dev nD, (l15.map fun r => if c = peer d r ∧ (33 : Fin 34) = kRecv d then 1 else 0).sum = 0
    ∧ (l15.map fun r => if c = peer d r ∧ (33 : Fin 34) = 33 then 1 else 0).sum = if d = c then 0 else 1 := by decide +kernel
theorem owed_count_recv : ∀ d c s : Dev nD, s ≠ c → (l15.map fun r => if c = peer d r ∧ kRecv s = kRecv d then 1 else 0).sum = (if d = s then 1 else 0)
    ∧ (l15.map fun r => if c = peer d r ∧ kRecv s = 33 then 1 else 0).sum = 0 := by decide +kernel

theorem owed_bar (d c : Dev nD) : O₀ d (barCell c) () = if d = c then 0 else 1 := by
  rw [← kcell_bar, owed_at, (owed_count_bar d c).1, (owed_count_bar d c).2, Nat.zero_mul, Nat.zero_add, Nat.mul_one]
theorem owed_recv (d c s : Dev nD) (h : s ≠ c) : O₀ d (recvCell c s) () = if d = s then N else 0 := by
  rw [← kcell_recv, owed_at, (owed_count_recv d c s h).1, (owed_count_recv d c s h).2, Nat.zero_mul, Nat.add_zero, ite_mul, Nat.one_mul, Nat.zero_mul]

theorem fifteen : ∀ c : Dev nD, (∑ d : Dev nD, if d = c then 0 else 1) = 15 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, fifteen]
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h, Finset.sum_ite_eq' Finset.univ s fun _ => N,
    if_pos (Finset.mem_univ _)]

theorem recv_inj : Function.Injective fun s : Dev nD => (SemLoc.dma (recvS s) : SemLoc sig) := fun s s' h => by
  have h' : role (.dma (recvS s)) = role (.dma (recvS s')) := congrArg role h
  rw [role_recv, role_recv] at h'
  exact Role.recv.inj h'

/-- The launch's credits are those the device starts with. -/
theorem creds (c : Dev nD) : (Pipeline.launchCred O₀ c : sProp 𝕄) ⊢ credits c := by
  unfold Pipeline.launchCred credits
  rw [bigSep_univ_at _ (SemLoc.reg barS), launch_bar]
  refine sep_mono_right ?_
  have hsub : (Finset.univ.erase c).map ⟨fun s : Dev nD => (SemLoc.dma (recvS s) : SemLoc sig), recv_inj⟩ ⊆ Finset.univ.erase (SemLoc.reg barS) := fun x hx => by
    obtain ⟨s, -, rfl⟩ := Finset.mem_map.mp hx
    exact Finset.mem_erase.mpr ⟨fun h => (by cases h), Finset.mem_univ _⟩
  refine (BI.bigSep_subset hsub).trans ?_
  rw [bigSep_map]
  exact Entails.of_eq (bigSep_congr fun s hs => by
    show (cred (tallyOn (recvCell c s) (launchCredit (Pipeline.owing O₀) 0 (recvCell c s))) : sProp 𝕄) = _
    rw [launch_recv c s (Finset.mem_erase.mp hs).1])

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratches c) from rfl, scopedRest0_eq]
  unfold scratches pts
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratches c ∗ zeros c) from rfl, scopedRest0_eq, zeros_eq]
  unfold scratches pts
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, for any float values, from any memory with the counters at zero: every fair execution
    ends, with every device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays after the run hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.AllToAll

end
-- ==== Proof.Value.lean ====
/-
The value: over the extended reals, what the run leaves in device `c`'s result is row block `c` of the product of the
whole `x`, gathered from the devices' column blocks, with `w`.
-/
module

public import proofs.«01_k».proof.Proof.Run
public import Idealize.ShloMosaic.Lib.MatmulPlain
public import Idealize.ShloMosaic.Lib.StackMember
public import Idealize.ShloMosaic.Lib.ValueIdx
public import Idealize.ShloMosaic.Lib.Pointwise.Sums
public import Idealize.ShloMosaic.Lib.Pipeline.Value
public import Idealize.ShloMosaic.Lib.Layout

@[expose] public section

set_option maxRecDepth 65536

noncomputable section

namespace Cert.AllToAll

open Cert.KernelIdeal Cert.KernelIdeal.Gen

open Idealize.ShloMosaic hiding ix2 ix3 eq_ix2
open Idealize.ShloMosaic.TcCoe
open Idealize.ShloMosaic.ValueIdx
open Idealize.ShloMosaic.Pipeline (Dat)
open scoped BigOperators

/-! ## The windows are whole arrays -/

section AnyFloats

variable {F : FTy → Type} [FloatOps F]
variable (m : (ℓ : Loc nD τ sig) → Buf (Elt F) ℓ) (ρ : Dev nD → PrngReg)

/-- The one block of each window is its array, index by index. -/
theorem emb_x (t : Fin cfg0.N) (i : S2048x128.Idx) : (win0_0.rect t).emb i = i := by
  funext a; apply Fin.ext; rw [Rect.emb_apply]
  show 0 * _ + 1 * (i a).val = (i a).val
  omega
theorem emb_w (t : Fin cfg0.N) (i : S2048x2048.Idx) : (win0_1.rect t).emb i = i := by
  funext a; apply Fin.ext; rw [Rect.emb_apply]
  show 0 * _ + 1 * (i a).val = (i a).val
  omega
theorem emb_o (t : Fin cfg0.N) (i : S128x2048.Idx) : (win0_2.rect t).emb i = i := by
  funext a; apply Fin.ext; rw [Rect.emb_apply]
  show 0 * _ + 1 * (i a).val = (i a).val
  omega

/-- So what is staged is the argument; -/
theorem xstg_eq (c : Dev nD) : xstg m ρ c = m ((c : Thread nD τ).loc main_arg0) :=
  funext fun i => congrArg (m ((c : Thread nD τ).loc main_arg0)) (emb_x (0 : Fin 1) i)
theorem wstg_eq (c : Dev nD) : wstg m ρ c = m ((c : Thread nD τ).loc main_arg1) :=
  funext fun i => congrArg (m ((c : Thread nD τ).loc main_arg1)) (emb_w (0 : Fin 1) i)

/-- and the kernel's copies are the arguments too. -/
theorem xbv_eq (c : Dev nD) : xbv m ρ c = m ((c : Thread nD τ).loc main_arg0) := by
  unfold xbv k0_pay1
  simp only [shapeCast_self]
  exact xstg_eq m ρ c
theorem wbv_eq (c : Dev nD) : wbv m ρ c = m ((c : Thread nD τ).loc main_arg1) := by
  unfold wbv k0_pay2
  simp only [shapeCast_self]
  exact wstg_eq m ρ c

/-- The result array ends as the last accumulation. -/
theorem finalA_o (c : Dev nD) : finalA m ρ c (2 : Fin 3) = outAt m ρ c :=
  (dats (F := F) m ρ 0 c).arrAt_eq_of_cover (2 : Fin 3) (outAt m ρ c)
    (fun t _ => by
      funext i
      exact (congrArg (outAt m ρ c) (emb_o t i)).symm)
    (fun i => ⟨(0 : Fin 1), flush0_2 _, Finset.mem_map.mpr ⟨i, Finset.mem_univ _, emb_o (0 : Fin 1) i⟩⟩)

/-! ## The loads of one accumulation, at an index -/

/-- Device `s`'s block as device `c` loads it: row block `c` of device `s`'s `x`. -/
theorem blockV_apply (c s : Dev nD) (i k : Fin 128) :
    shapeCast S128x128 (blockV m ρ c s) shapeCasts_S1x128x128_S128x128 (ix2 i k)
      = m ((s : Thread nD τ).loc main_arg0) (ix2 (rowOf c i) k) := by
  have h0 : (Rect.unit (s := S16x128x128) ![s.val, 0, 0] S1x128x128.size (inbSlot s.val s.isLt)).emb
      (Shape.reshapeEquiv squeezes_S1x128x128_S128x128.numel_eq (ix2 i k)) = ix3 (n0 := 16) (n1 := 128) (n2 := 128) s i k := by
    rw [show Shape.reshapeEquiv squeezes_S1x128x128_S128x128.numel_eq (ix2 i k) = ix3 (⟨0, Nat.one_pos⟩ : Fin 1) i k from reshapeEquiv_ix2_1ab _ i k]
    funext x; apply Fin.ext; rw [ValueKit.rect_emb_unit_val]
    match x with
    | ⟨0, _⟩ => rfl
    | ⟨1, _⟩ => exact Nat.zero_add _
    | ⟨2, _⟩ => exact Nat.zero_add _
  exact (congrArg (gat m ρ c) h0).trans (congrFun (xbv_eq m ρ s) _)

/-- The rows of `w` that go with it. -/
theorem wRows_apply (c s : Dev nD) (k : Fin 128) (j : Fin 2048) :
    wRows m ρ c s (ix2 k j) = m ((c : Thread nD τ).loc main_arg1) (ix2 (rowOf s k) j) := by
  have h1 : (Rect.unit (s := S2048x2048) ![128 * s.val, 0] S128x2048.size (inbRows s.val s.isLt)).emb (ix2 k j)
      = ix2 (n0 := 2048) (n1 := 2048) (rowOf s k) j := by
    funext x; apply Fin.ext; rw [ValueKit.rect_emb_unit_val]
    match x with
    | ⟨0, _⟩ => rfl
    | ⟨1, _⟩ => exact Nat.zero_add _
  exact (congrArg (wbv m ρ c) h1).trans (congrFun (wbv_eq m ρ c) _)

end AnyFloats

/-! ## Over the extended reals -/

variable (m : (ℓ : Loc nD τ sig) → Buf (Elt Ideal) ℓ) (ρ : Dev nD → PrngReg)

/-- The entry of device `s`'s block of `x`, and of device `c`'s copy of `w`, as extended reals. -/
def xAt (s : Dev nD) (i : Fin 2048) (k : Fin 128) : EReal := m ((s : Thread nD τ).loc main_arg0) (ix2 i k)
def wAt (c : Dev nD) (k j : Fin 2048) : EReal := m ((c : Thread nD τ).loc main_arg1) (ix2 k j)

/-- Device `s`'s share of result row `i`, column `j` on device `c`. -/
def share (c s : Dev nD) (i : Fin 128) (j : Fin 2048) : EReal := ∑ k : Fin 128, xAt m s (rowOf c i) k * wAt m c (rowOf s k) j

/-- One accumulation adds one device's share. -/
theorem accum_apply (c s : Dev nD) (a : S128x2048.Idx → Elt Ideal .f32) (i : Fin 128) (j : Fin 2048) :
    accum m ρ c a s (ix2 i j) = a (ix2 i j) + share m c s i j := by
  unfold accum k0_pay4
  simp only [shapeCast_self]
  refine congrArg (a (ix2 i j) + ·) ?_
  refine (Ideal.matmul_plain_apply (M := 128) (K := 128) (N := 2048) none _ _ _ i j).trans ?_
  refine (congrArg₂ (· + ·) Ideal.ofBits_zero_f32 (Finset.sum_congr rfl fun k _ => ?_)).trans (zero_add _)
  exact congrArg₂ (· * ·) (blockV_apply m ρ c s i k) (wRows_apply m ρ c s k j)

/-- The accumulations of a list of devices add their shares. -/
theorem foldl_accum (c : Dev nD) (i : Fin 128) (j : Fin 2048) : ∀ (l : List (Dev nD)) (a : S128x2048.Idx → Elt Ideal .f32),
    l.foldl (accum m ρ c) a (ix2 i j) = a (ix2 i j) + (l.map fun s => share m c s i j).sum
  | [], a => (add_zero _).symm
  | s :: l, a => by
    rw [List.foldl_cons, foldl_accum c i j l, accum_apply, List.map_cons, List.sum_cons, add_assoc]

/-- All of them: the result is the sum of the sixteen devices' shares. -/
theorem outAt_apply (c : Dev nD) (i : Fin 128) (j : Fin 2048) : outAt m ρ c (ix2 i j) = ∑ s : Dev nD, share m c s i j := by
  unfold outAt
  rw [foldl_accum]
  refine (congrArg₂ (· + ·) Ideal.ofBits_zero_f32 ?_).trans (zero_add _)
  exact (Fin.sum_univ_def (n := 16) fun s => share m c s i j).symm

/-- The product of the whole `x` and `w` at a row and column, its contraction cut by the devices' column blocks. -/
theorem product_apply (X W : (⟨2, ![2048, 2048]⟩ : Shape).Idx → EReal) (i j : Fin 2048) :
    Host.dotGeneral (F := Ideal) (φ₁ := .bf16) (φ₂ := .bf16) (DotDims.plain 2048 2048 2048) none X W (ix2 i j)
      = ∑ s : Dev nD, ∑ k : Fin 128, X (ix2 i (rowOf s k)) * W (ix2 (rowOf s k) j) := by
  rw [StackMember.dotGeneral_plain_apply, Fin.sum_univ_tiles 16 128 rfl]
  refine Finset.sum_congr rfl fun s _ => Finset.sum_congr rfl fun k _ => ?_
  have h : (⟨s.val * 128 + k.val, by have := s.isLt; have := k.isLt; omega⟩ : Fin 2048) = rowOf s k :=
    Fin.ext (congrArg (· + k.val) (Nat.mul_comm _ _))
  exact congrArg (fun z => X (ix2 i z) * W (ix2 z j)) h

/-- When the devices hold the column blocks of `X`, and each the whole of `W`, device `c`'s result is row block `c` of
    their product. -/
theorem outAt_eq (X W : (⟨2, ![2048, 2048]⟩ : Shape).Idx → EReal)
    (hx : ∀ s : Dev nD, m ((s : Thread nD τ).loc main_arg0) = Layout.block ⟨2, ![2048, 128]⟩ ⟨2, ![2048, 2048]⟩ 1 16 s X)
    (hw : ∀ s : Dev nD, m ((s : Thread nD τ).loc main_arg1) = W) (c : Dev nD) :
    outAt m ρ c = Layout.block ⟨2, ![128, 2048]⟩ ⟨2, ![2048, 2048]⟩ 0 16 c
      (Host.dotGeneral (F := Ideal) (φ₁ := .bf16) (φ₂ := .bf16) (DotDims.plain 2048 2048 2048) none X W) := by
  funext y
  obtain ⟨i, j, rfl⟩ : ∃ (i : Fin 128) (j : Fin 2048), y = ix2 i j := ⟨y 0, y 1, eq_ix2 y⟩
  rw [outAt_apply, Layout.block_apply]
  have hrow : ∀ h : Layout.Tiles ⟨2, ![128, 2048]⟩ ⟨2, ![2048, 2048]⟩ 0 16, h.idx c (ix2 i j) = ix2 (rowOf c i) j := by
    intro h
    funext a; apply Fin.ext
    match a with
    | ⟨0, _⟩ => exact congrArg (· + i.val) (Nat.mul_comm c.val 128)
    | ⟨1, _⟩ => rfl
  have hcol : ∀ (h : Layout.Tiles ⟨2, ![2048, 128]⟩ ⟨2, ![2048, 2048]⟩ 1 16) (s : Dev nD) (k : Fin 128),
      h.idx s (ix2 (rowOf c i) k) = ix2 (rowOf c i) (rowOf s k) := by
    intro h s k
    funext a; apply Fin.ext
    match a with
    | ⟨0, _⟩ => rfl
    | ⟨1, _⟩ => exact congrArg (· + k.val) (Nat.mul_comm s.val 128)
  rw [hrow, product_apply]
  refine Finset.sum_congr rfl fun s _ => Finset.sum_congr rfl fun k _ => ?_
  exact congrArg₂ (· * ·) ((congrFun (hx s) _).trans (congrArg X (hcol _ s k))) (congrFun (hw c) _)

end Cert.AllToAll

end
-- ==== Proof.lean ====
/-
The claims, from the run of the kernel's program (`Proof/Run.lean`), the value it computes (`Proof/Value.lean`) and the
run of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent

@[expose] public section

set_option maxRecDepth 65536

noncomputable section

namespace Cert.Proof

open Idealize.ShloMosaic Idealize.SL.Sem

/-- At any float values, the kernel's run leaves its arguments, and every counter at zero. -/
theorem frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.AllToAll.finalA_x m ρ c), (h.1 c (1 : Fin 3)).trans (Cert.AllToAll.finalA_w m ρ c)⟩, h.2⟩)
    (Cert.AllToAll.run_main m ρ)

/-- So the frame holds of the idealized kernel. -/
theorem frame_kernelIdeal : Cert.quiescent_KernelIdeal := fun m ρ _ => frame (F := Ideal) m ρ

/-- The body tables of the two kernel programs are one: the programs are one text, label by label. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (_, _) => exact congrFun rfl _

/-- And so are their whole tables, pipelines included. -/
theorem defs_eq {F : FTy → Type} [FloatOps F] : Cert.Kernel.defs (F := F) = Cert.KernelIdeal.defs (F := F) :=
  congrArg (Idealize.ShloMosaic.Pipeline.defs Cert.KernelIdeal.pcfgs) bodies_eq

/-- So the frame holds of the kernel at the machine's floats. -/
theorem frame_kernel : Cert.quiescent_Kernel := fun m ρ _ => by
  have h := frame (F := Bits) m ρ
  rw [← defs_eq] at h
  exact h

/-- The reference's run leaves its arguments; it has no counter to leave otherwise than zero. -/
theorem frame_referenceIdeal : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- Over the extended reals, from the column blocks of `x` and a copy of `w` on every device, the kernel leaves the row
    blocks of what the reference computes from the whole `x` and `w`. -/
theorem algebraic : Cert.algebraic_KernelIdeal_ReferenceIdeal := fun m ρ m' ρ' _ hin =>
  ⟨_, (θ_run Cert.KernelIdeal.defs _ _).mono
      (fun r h c => ⟨(h.1 c (2 : Fin 3)).trans ((Cert.AllToAll.finalA_o m ρ c).trans
          (Cert.AllToAll.outAt_eq m ρ _ _ (fun s => (hin s).1) (fun s => (hin s).2) c)),
        (h.1 c (0 : Fin 3)).trans (Cert.AllToAll.finalA_x m ρ c), (h.1 c (1 : Fin 3)).trans (Cert.AllToAll.finalA_w m ρ c)⟩)
      (Cert.AllToAll.run_main (F := Ideal) m ρ),
    (θ_run Cert.ReferenceIdeal.defs _ _).mono (fun _ h => h 0) (Cert.ReferenceIdeal.Value.run (F := Ideal) m' ρ')⟩

/-- Every claim. -/
theorem claim : Cert.Claim := ⟨Cert.Kernel.Gen.facts, Cert.KernelIdeal.Gen.facts, Cert.ReferenceIdeal.Gen.facts, frame_kernel, frame_kernelIdeal, frame_referenceIdeal, trivial, algebraic⟩

end Cert.Proof

end
